-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x3DB5#16 ((11863283 / 134217728 : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x256x1024 : S_.BroadcastsInDim S1x256x1024 (![] : Fin 0 → Fin S1x256x1024.rank)
  bcast_S_S1024x1024 : S_.BroadcastsInDim S1024x1024 (![] : Fin 0 → Fin S1024x1024.rank)

variable [Facts]

def fn {F : FTy → Type} [FloatOps F] (main_arg0 : FVec F S1x256x1024 .bf16) (main_arg1 : FVec F S1024x1024 .bf16) (main_arg2 : FVec F S1024x1024 .bf16) (main_arg3 : FVec F S1024x1024 .bf16) (main_arg4 : FVec F S1024x1024 .bf16) : IVec S1x256x1024 1 × IVec S1024x1024 1 × IVec S1024x1024 1 :=
  let main_v0 : FVec F S1x256x1024 .f32 := (extf .f32 · bitsLt_bf16_f32) main_arg0
  let main_v1 : FVec F S1x256x1024 .f32 := Host.absf main_v0
  let main_cst : FVec F S_ .f32 := constant S_ .f32 0x7F800000#32
  let main_v2 : FVec F S1x256x1024 .f32 := broadcastInDim S1x256x1024 ![] bcast_S_S1x256x1024 main_cst
  let main_v3 : IVec S1x256x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x1024 .f32 := (extf .f32 · bitsLt_bf16_f32) main_arg2
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  (main_v3, main_v7, main_v11)
-- ==== Pre_finite_scores_ReferenceIdeal.lean ====
abbrev S1x256x1024 : Shape := ⟨3, ![1, 256, 1024]⟩
abbrev S1024x8192 : Shape := ⟨2, ![1024, 8192]⟩
abbrev S8192x1024 : Shape := ⟨2, ![8192, 1024]⟩
abbrev S_ : Shape := ⟨0, ![]⟩

class Facts : Prop where
  bitsLt_bf16_f32 : FTy.bits .bf16 < FTy.bits .f32
  bcast_S_S1x256x1024 : S_.BroadcastsInDim S1x256x1024 (![] : Fin 0 → Fin S1x256x1024.rank)
  bcast_S_S1024x8192 : S_.BroadcastsInDim S1024x8192 (![] : Fin 0 → Fin S1024x8192.rank)

variable [Facts]

def fn {F : FTy → Type} [FloatOps F] (main_arg0 : FVec F S1x256x1024 .bf16) (main_arg1 : FVec F S1024x8192 .bf16) (main_arg2 : FVec F S1024x8192 .bf16) (main_arg3 : FVec F S1024x8192 .bf16) (main_arg4 : FVec F S8192x1024 .bf16) : IVec S1x256x1024 1 × IVec S1024x8192 1 × IVec S1024x8192 1 :=
  let main_v0 : FVec F S1x256x1024 .f32 := (extf .f32 · bitsLt_bf16_f32) main_arg0
  let main_v1 : FVec F S1x256x1024 .f32 := Host.absf main_v0
  let main_cst : FVec F S_ .f32 := constant S_ .f32 0x7F800000#32
  let main_v2 : FVec F S1x256x1024 .f32 := broadcastInDim S1x256x1024 ![] bcast_S_S1x256x1024 main_cst
  let main_v3 : IVec S1x256x1024 1 := cmpf .olt main_v1 main_v2
  let main_v4 : FVec F S1024x8192 .f32 := (extf .f32 · bitsLt_bf16_f32) main_arg1
  let main_v5 : FVec F S1024x8192 .f32 := Host.absf main_v4
  let main_cst_0 : FVec F S_ .f32 := constant S_ .f32 0x7F800000#32
  let main_v6 : FVec F S1024x8192 .f32 := broadcastInDim S1024x8192 ![] bcast_S_S1024x8192 main_cst_0
  let main_v7 : IVec S1024x8192 1 := cmpf .olt main_v5 main_v6
  let main_v8 : FVec F S1024x8192 .f32 := (extf .f32 · bitsLt_bf16_f32) main_arg2
  let main_v9 : FVec F S1024x8192 .f32 := Host.absf main_v8
  let main_cst_1 : FVec F S_ .f32 := constant S_ .f32 0x7F800000#32
  let main_v10 : FVec F S1024x8192 .f32 := broadcastInDim S1024x8192 ![] bcast_S_S1024x8192 main_cst_1
  let main_v11 : IVec S1024x8192 1 := cmpf .olt main_v9 main_v10
  (main_v3, main_v7, main_v11)
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S256x384 : Shape := ⟨2, ![256, 384]⟩
abbrev S256x256 : Shape := ⟨2, ![256, 256]⟩
abbrev S3x256x384 : Shape := ⟨3, ![3, 256, 384]⟩
abbrev S3x256x256 : Shape := ⟨3, ![3, 256, 256]⟩
abbrev S3x3 : Shape := ⟨2, ![3, 3]⟩
abbrev S_ : Shape := ⟨0, ![]⟩
abbrev S256x128 : Shape := ⟨2, ![256, 128]⟩
abbrev S256 : Shape := ⟨1, ![256]⟩
abbrev S256x1 : Shape := ⟨2, ![256, 1]⟩
abbrev S1024x384 : Shape := ⟨2, ![1024, 384]⟩
abbrev S1x1 : Shape := ⟨2, ![1, 1]⟩
abbrev S1x256x384 : Shape := ⟨3, ![1, 256, 384]⟩
abbrev S1024x256 : Shape := ⟨2, ![1024, 256]⟩
abbrev S1x256x256 : Shape := ⟨3, ![1, 256, 256]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x384, .bf16⟩
  | .local _ .vmem, ⟨7, _⟩ => ⟨S256x384, .bf16⟩
  | .local _ .vmem, ⟨8, _⟩ => ⟨S256x256, .bf16⟩
  | .local _ .vmem, ⟨9, _⟩ => ⟨S3x256x384, .bf16⟩
  | .local _ .vmem, ⟨10, _⟩ => ⟨S3x256x384, .bf16⟩
  | .local _ .vmem, ⟨11, _⟩ => ⟨S3x256x256, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v144 : BitVec 32 := Scalar.xori v2 c1_i32_58
  let c1_i32_64 : BitVec 32 := 1#32
  let v145 : BitVec 32 := Scalar.muli v144 c1_i32_64
  let v146 : BitVec 32 := Scalar.addi c0_i32_65 v145
  v146.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_71 : BitVec 32 := 3#32
  let v159 : BitVec 32 := Scalar.xori v2 c3_i32_71
  let c1_i32_77 : BitVec 32 := 1#32
  let v160 : BitVec 32 := Scalar.muli v159 c1_i32_77
  let v161 : BitVec 32 := Scalar.addi c0_i32_78 v160
  v161.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_84 : BitVec 32 := 4#32
  let v174 : BitVec 32 := Scalar.xori v2 c4_i32_84
  let c1_i32_89 : BitVec 32 := 1#32
  let v175 : BitVec 32 := Scalar.muli v174 c1_i32_89
  let v176 : BitVec 32 := Scalar.addi c0_i32_90 v175
  v176.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v199 : BitVec 32 := Scalar.xori v2 c3_i32_115
  let c1_i32_121 : BitVec 32 := 1#32
  let v200 : BitVec 32 := Scalar.muli v199 c1_i32_121
  let v201 : BitVec 32 := Scalar.addi c0_i32_122 v200
  v201.toNat
def k0_dev8 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_147 : BitVec 32 := 4#32
  let v224 : BitVec 32 := Scalar.xori v2 c4_i32_147
  let c1_i32_153 : BitVec 32 := 1#32
  let v225 : BitVec 32 := Scalar.muli v224 c1_i32_153
  let v226 : BitVec 32 := Scalar.addi c0_i32_154 v225
  v226.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v249 : BitVec 32 := Scalar.xori v2 c1_i32_179
  let c1_i32_185 : BitVec 32 := 1#32
  let v250 : BitVec 32 := Scalar.muli v249 c1_i32_185
  let v251 : BitVec 32 := Scalar.addi c0_i32_186 v250
  v251.toNat
def k0_dev10 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_210 : BitVec 32 := 4#32
  let v274 : BitVec 32 := Scalar.xori v2 c4_i32_210
  let c1_i32_216 : BitVec 32 := 1#32
  let v275 : BitVec 32 := Scalar.muli v274 c1_i32_216
  let v276 : BitVec 32 := Scalar.addi c0_i32_217 v275
  v276.toNat
def k0_dev11 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_242 : BitVec 32 := 1#32
  let v299 : BitVec 32 := Scalar.xori v2 c1_i32_242
  let c1_i32_248 : BitVec 32 := 1#32
  let v300 : BitVec 32 := Scalar.muli v299 c1_i32_248
  let v301 : BitVec 32 := Scalar.addi c0_i32_249 v300
  v301.toNat
def k0_dev12 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_274 : BitVec 32 := 3#32
  let v324 : BitVec 32 := Scalar.xori v2 c3_i32_274
  let c1_i32_280 : BitVec 32 := 1#32
  let v325 : BitVec 32 := Scalar.muli v324 c1_i32_280
  let v326 : BitVec 32 := Scalar.addi c0_i32_281 v325
  v326.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some ((11863283 / 134217728 : ℝ) : EReal)
  | _ => none
-- ==== ReferenceIdeal.lean ====
abbrev S1x256x1024 : Shape := ⟨3, ![1, 256, 1024]⟩
abbrev S1024x8192 : Shape := ⟨2, ![1024, 8192]⟩
abbrev S8192x1024 : Shape := ⟨2, ![8192, 1024]⟩
abbrev S1x256x8192 : Shape := ⟨3, ![1, 256, 8192]⟩
abbrev S1x256x64x128 : Shape := ⟨4, ![1, 256, 64, 128]⟩
abbrev S_ : Shape := ⟨0, ![]⟩
abbrev S1x64x256x1 : Shape := ⟨4, ![1, 64, 256, 1]⟩
abbrev S1x64x256x256 : Shape := ⟨4, ![1, 64, 256, 256]⟩
abbrev S1x64x256 : Shape := ⟨3, ![1, 64, 256]⟩
abbrev S1x256x64x1 : Shape := ⟨4, ![1, 256, 64, 1]⟩
abbrev S1x64x128x256 : Shape := ⟨4, ![1, 64, 128, 256]⟩
abbrev S256x1024 : Shape := ⟨2, ![256, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S1024x8192, .bf16⟩
  | .hbm, ⟨2, _⟩ => ⟨S1024x8192, .bf16⟩
  | .hbm, ⟨3, _⟩ => ⟨S1024x8192, .bf16⟩
  | .hbm, ⟨4, _⟩ => ⟨S8192x1024, .bf16⟩
  | .hbm, ⟨5, _⟩ => ⟨S1x256x8192, .f32⟩
  | .hbm, ⟨6, _⟩ => ⟨S1x256x8192, .bf16⟩
  | .hbm, ⟨7, _⟩ => ⟨S1x256x64x128, .bf16⟩
  | .hbm, ⟨8, _⟩ => ⟨S1x256x8192, .f32⟩
  | .hbm, ⟨9, _⟩ => ⟨S1x256x8192, .bf16⟩
  | .hbm, ⟨10, _⟩ => ⟨S1x256x64x128, .bf16⟩
  | .hbm, ⟨11, _⟩ => ⟨S1x256x8192, .f32⟩
  | .hbm, ⟨12, _⟩ => ⟨S1x256x8192, .bf16⟩
  | .hbm, ⟨13, _⟩ => ⟨S1x256x64x128, .bf16⟩
  | .hbm, ⟨14, _⟩ => ⟨S_, .f32⟩
  | .hbm, ⟨15, _⟩ => ⟨S1x256x64x128, .f32⟩
  | .hbm, ⟨16, _⟩ => ⟨S_, .f32⟩
  | .hbm, ⟨17, _⟩ => ⟨S1x64x256x1, .f32⟩
  | .hbm, ⟨18, _⟩ => ⟨S_, .f32⟩
  | .hbm, ⟨19, _⟩ => ⟨S1x64x256x1, .f32⟩
  | .hbm, ⟨20, _⟩ => ⟨S1x64x256x256, .f32⟩
  | .hbm, ⟨21, _⟩ => ⟨S1x64x256x256, .bf16⟩
  | .hbm, ⟨22, _⟩ => ⟨S1x64x256x256, .f32⟩
  | .hbm, ⟨23, _⟩ => ⟨S_, .f32⟩
  | .hbm, ⟨24, _⟩ => ⟨S1x64x256x256, .f32⟩
  | .hbm, ⟨25, _⟩ => ⟨S1x64x256x256, .f32⟩
  | .hbm, ⟨26, _⟩ => ⟨S_, .f32⟩
  | .hbm, ⟨27, _⟩ => ⟨S1x64x256, .f32⟩
  | .hbm, ⟨28, _⟩ => ⟨S1x64x256x1, .f32⟩
  | .hbm, ⟨29, _⟩ => ⟨S1x64x256x1, .f32⟩
  | .hbm, ⟨30, _⟩ => ⟨S1x64x256x1, .f32⟩
  | .hbm, ⟨31, _⟩ => ⟨S1x64x256x1, .f32⟩
  | .hbm, ⟨32, _⟩ => ⟨S1x64x256x256, .f32⟩
  | .hbm, ⟨33, _⟩ => ⟨S1x64x256x256, .f32⟩
  | .hbm, ⟨34, _⟩ => ⟨S1x64x256x256, .f32⟩
  | .hbm, ⟨35, _⟩ => ⟨S1x64x256x1, .f32⟩
  | .hbm, ⟨36, _⟩ => ⟨S_, .f32⟩
  | .hbm, ⟨37, _⟩ => ⟨S1x64x256, .f32⟩
  | .hbm, ⟨38, _⟩ => ⟨S1x64x256x1, .f32⟩
  | .hbm, ⟨39, _⟩ => ⟨S1x64x256x1, .f32⟩
  | .hbm, ⟨40, _⟩ => ⟨S1x256x64x1, .f32⟩
  | .hbm, ⟨41, _⟩ => ⟨S1x256x64x128, .f32⟩
  | .hbm, ⟨42, _⟩ => ⟨S1x256x64x128, .f32⟩
  | .hbm, ⟨43, _⟩ => ⟨S1x256x64x128, .f32⟩
  | .hbm, ⟨44, _⟩ => ⟨S1x64x128x256, .f32⟩
  | .hbm, ⟨45, _⟩ => ⟨S1x256x64x128, .f32⟩
  | .hbm, ⟨46, _⟩ => ⟨S1x256x64x128, .f32⟩
  | .hbm, ⟨47, _⟩ => ⟨S1x256x64x1, .f32⟩
  | .hbm, ⟨48, _⟩ => ⟨S1x256x64x128, .f32⟩
  | .hbm, ⟨49, _⟩ => ⟨S1x256x64x128, .f32⟩
  | .hbm, ⟨50, _⟩ => ⟨S1x256x8192, .f32⟩
  | .hbm, ⟨51, _⟩ => ⟨S8192x1024, .f32⟩
  | .hbm, ⟨52, _⟩ => ⟨S1x256x1024, .f32⟩
  | .hbm, ⟨53, _⟩ => ⟨S256x1024, .f32⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Proto.lean ====
/-
# 01_k — the exchange protocol of the kernel

Eight devices, numbered by three bits. A device signals the barrier semaphores of its three partners (its number with
1, 3 or 4 folded in by exclusive or) and waits for three units on its own; then nine transfers, three rounds of three
column chunks, each into a landing slot of its own on one of the partners. Stated here: the partners, the buffers and
cells, what every buffer holds when it is sent, the schedule of the rounds library, what a device still owes after a
number of its sends, and the levels by which it may wait.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's rounds and this kernel's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-! ## The partners -/

/-- Partner `j` of device `c`: its number with 1, 3 or 4 folded in by exclusive or. -/
def peer (j : Fin 3) (c : Dev nD) : Dev nD :=
  ⟨(c.val ^^^ (![1, 3, 4] : Fin 3 → ℕ) j) % 8, Nat.mod_lt _ (by decide)⟩

/-- A partner's partner along the same bit pattern is the device itself. -/
theorem peer_peer (j : Fin 3) (c : Dev nD) : peer j (peer j c) = c := by revert j c; decide

/-- The partner map of one pattern, as an equivalence of the devices. -/
def peerEquiv (j : Fin 3) : Dev nD ≃ Dev nD := ⟨peer j, peer j, peer_peer j, peer_peer j⟩

/-- Which partner transfer `x = 3·round + chunk` goes to and comes from. -/
def jx (x : Fin 9) : Fin 3 := (![0, 1, 2, 1, 2, 0, 2, 0, 1] : Fin 9 → Fin 3) x

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer (jx 0) c := by revert c; decide +kernel
theorem dev5_eq (c : Dev nD) : (⟨k0_dev5 c, k0_dev5_lt c⟩ : Dev nD) = peer (jx 1) c := by revert c; decide +kernel
theorem dev6_eq (c : Dev nD) : (⟨k0_dev6 c, k0_dev6_lt c⟩ : Dev nD) = peer (jx 2) c := by revert c; decide +kernel
theorem dev7_eq (c : Dev nD) : (⟨k0_dev7 c, k0_dev7_lt c⟩ : Dev nD) = peer (jx 3) c := by revert c; decide +kernel
theorem dev8_eq (c : Dev nD) : (⟨k0_dev8 c, k0_dev8_lt c⟩ : Dev nD) = peer (jx 4) c := by revert c; decide +kernel
theorem dev9_eq (c : Dev nD) : (⟨k0_dev9 c, k0_dev9_lt c⟩ : Dev nD) = peer (jx 5) c := by revert c; decide +kernel
theorem dev10_eq (c : Dev nD) : (⟨k0_dev10 c, k0_dev10_lt c⟩ : Dev nD) = peer (jx 6) c := by revert c; decide +kernel
theorem dev11_eq (c : Dev nD) : (⟨k0_dev11 c, k0_dev11_lt c⟩ : Dev nD) = peer (jx 7) c := by revert c; decide +kernel
theorem dev12_eq (c : Dev nD) : (⟨k0_dev12 c, k0_dev12_lt c⟩ : Dev nD) = peer (jx 8) c := by revert c; decide +kernel

/-! ## Buffers -/

abbrev xM : Memref sig .tc .vmem S1x256x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0
abbrev oM : Memref sig .tc .vmem S256x1024 .f32 := Memref.whole cc0_stg5_0
abbrev sM0 : Memref sig .tc .vmem S256x384 .bf16 := Memref.whole cc0_scratch0
abbrev sM1 : Memref sig .tc .vmem S256x384 .bf16 := Memref.whole cc0_scratch1
abbrev sM2 : Memref sig .tc .vmem S256x256 .bf16 := Memref.whole cc0_scratch2
abbrev rM0 : Memref sig .tc .vmem S3x256x384 .bf16 := Memref.whole cc0_scratch3
abbrev rM1 : Memref sig .tc .vmem S3x256x384 .bf16 := Memref.whole cc0_scratch4
abbrev rM2 : Memref sig .tc .vmem S3x256x256 .bf16 := Memref.whole cc0_scratch5

/-- The landing slot of round `n` in a three-slot buffer of 256 × 384 blocks. -/
abbrev slotW (b : Memref sig .tc .vmem S3x256x384 .bf16) (n : ℕ)
    (h : ∀ a, (![n, 0, 0] : Fin 3 → Nat) a + S1x256x384.size a ≤ S3x256x384.size a) : Memref sig .tc .vmem S256x384 .bf16 :=
  (b.slice (Rect.unit (s := S3x256x384) ![n, 0, 0] S1x256x384.size h) (fun _ => rfl)).squeeze S256x384 squeezes_S1x256x384_S256x384
/-- The landing slot of round `n` in a three-slot buffer of 256 × 256 blocks. -/
abbrev slotN (b : Memref sig .tc .vmem S3x256x256 .bf16) (n : ℕ)
    (h : ∀ a, (![n, 0, 0] : Fin 3 → Nat) a + S1x256x256.size a ≤ S3x256x256.size a) : Memref sig .tc .vmem S256x256 .bf16 :=
  (b.slice (Rect.unit (s := S3x256x256) ![n, 0, 0] S1x256x256.size h) (fun _ => rfl)).squeeze S256x256 squeezes_S1x256x256_S256x256

abbrev t00 := slotW rM0 0 inb_S3x256x384_S1x256x384_0_0_0
abbrev t01 := slotW rM1 0 inb_S3x256x384_S1x256x384_0_0_0
abbrev t02 := slotN rM2 0 inb_S3x256x256_S1x256x256_0_0_0
abbrev t10 := slotW rM0 1 inb_S3x256x384_S1x256x384_1_0_0
abbrev t11 := slotW rM1 1 inb_S3x256x384_S1x256x384_1_0_0
abbrev t12 := slotN rM2 1 inb_S3x256x256_S1x256x256_1_0_0
abbrev t20 := slotW rM0 2 inb_S3x256x384_S1x256x384_2_0_0
abbrev t21 := slotW rM1 2 inb_S3x256x384_S1x256x384_2_0_0
abbrev t22 := slotN rM2 2 inb_S3x256x256_S1x256x256_2_0_0

/-! ## Semaphores and cells -/

/-- The runtime's barrier semaphore. -/
abbrev barS : Sem sig := (SemArray.scalar (sig.barrier 0 rfl) : Sems sig S_).sem
/-- The DMA semaphore the source side of transfer `x` is credited on. -/
def sendS (x : Fin 9) : DmaSem sig := ⟨6 + x.val, by have := x.isLt; show 6 + x.val < 24; omega⟩
/-- The DMA semaphore the landing side of transfer `x` is credited on. -/
def recvS (x : Fin 9) : DmaSem sig := ⟨15 + x.val, by have := x.isLt; show 15 + x.val < 24; omega⟩

abbrev barCell (c : Dev nD) : GSem nD τ sig := ((c : Thread nD τ), .reg barS)
abbrev sendCell (x : Fin 9) (c : Dev nD) : GSem nD τ sig := ((c : Thread nD τ), .dma (sendS x))
abbrev recvCell (x : Fin 9) (c : Dev nD) : GSem nD τ sig := ((c : Thread nD τ), .dma (recvS x))

/-- The kernel's own eighteen DMA semaphores: the nine of the sources, then the nine of the landings. -/
def osem (k : Fin 18) : SemLoc sig := .dma ⟨6 + k.val, by have := k.isLt; show 6 + k.val < 24; omega⟩
/-- The barrier semaphore, then those eighteen. -/
def csem (k : Fin 19) : SemLoc sig :=
  if k = 0 then .reg barS else .dma ⟨5 + k.val, by have := k.isLt; show 5 + k.val < 24; omega⟩
abbrev kcell (ck : Dev nD × Fin 19) : GSem nD τ sig := ((ck.1 : Thread nD τ), csem ck.2)

/-- The places of a transfer's two semaphores among the nineteen. -/
def kS (x : Fin 9) : Fin 19 := ⟨1 + x.val, by omega⟩
def kR (x : Fin 9) : Fin 19 := ⟨10 + x.val, by omega⟩

theorem kcell_bar (c : Dev nD) : kcell (c, 0) = barCell c := rfl
theorem csem_kS (x : Fin 9) : csem (kS x) = .dma (sendS x) := by revert x; decide
theorem csem_kR (x : Fin 9) : csem (kR x) = .dma (recvS x) := by revert x; decide
theorem kcell_send (x : Fin 9) (c : Dev nD) : kcell (c, kS x) = sendCell x c := by unfold kcell; rw [csem_kS]
theorem kcell_recv (x : Fin 9) (c : Dev nD) : kcell (c, kR x) = recvCell x c := by unfold kcell; rw [csem_kR]

/-- The credit of one transfer of a 256 × 384 block, of one of a 256 × 256 block. -/
abbrev NW : ℕ := (sM0 : Memref sig .tc .vmem S256x384 .bf16).view.dmaCredit
abbrev NN : ℕ := (sM2 : Memref sig .tc .vmem S256x256 .bf16).view.dmaCredit
/-- The credit of transfer `x`. -/
def Nx (x : Fin 9) : ℕ := if x.val % 3 = 2 then NN else NW
theorem NW_pos : 0 < NW := View.dmaCredit_pos _ (by decide)
theorem NN_pos : 0 < NN := View.dmaCredit_pos _ (by decide)
theorem Nx_pos (x : Fin 9) : 0 < Nx x := by unfold Nx; split; exacts [NN_pos, NW_pos]

/-! ## What the buffers hold -/

/-- The contents of the six windows' buffers of device `c` at entry: the staged arguments. -/
def xs (c : Dev nD) : (cc0_stg0_0 : Ref sig .tc).ty.Contents (Elt F) :=
  (win0_0.blk (0 : Fin 1)).view.read (Elt F) (m ((c : Thread nD τ).loc main_arg0))
def wqs (c : Dev nD) : (cc0_stg1_0 : Ref sig .tc).ty.Contents (Elt F) :=
  (win0_1.blk (0 : Fin 1)).view.read (Elt F) (m ((c : Thread nD τ).loc main_arg1))
def wos (c : Dev nD) : (cc0_stg2_0 : Ref sig .tc).ty.Contents (Elt F) :=
  (win0_2.blk (0 : Fin 1)).view.read (Elt F) (m ((c : Thread nD τ).loc main_arg4))
def wks (c : Dev nD) : (cc0_stg3_0 : Ref sig .tc).ty.Contents (Elt F) :=
  (win0_3.blk (0 : Fin 1)).view.read (Elt F) (m ((c : Thread nD τ).loc main_arg2))
def wvs (c : Dev nD) : (cc0_stg4_0 : Ref sig .tc).ty.Contents (Elt F) :=
  (win0_4.blk (0 : Fin 1)).view.read (Elt F) (m ((c : Thread nD τ).loc main_arg3))

/-- A block read through a one-row window of a three-slot buffer. -/
def ldW (s : Vec F S256x384 .bf16) : Vec F S1x256x384 .bf16 :=
  fun i => s ((Shape.reshapeEquiv squeezes_S1x256x384_S256x384.numel_eq).symm i)
def ldN (s : Vec F S256x256 .bf16) : Vec F S1x256x256 .bf16 :=
  fun i => s ((Shape.reshapeEquiv squeezes_S1x256x256_S256x256.numel_eq).symm i)

/-- The projections of device `c`: queries, keys, values, the values as stored; then its eight heads' outputs, the last
    two payloads of which join them and hold the output projection's weights. -/
def qv (c : Dev nD) : FVec F S256x1024 .bf16 := k0_pay2 (xs m c) (wqs m c)
def kv (c : Dev nD) : FVec F S256x1024 .bf16 := k0_pay3 (xs m c) (wks m c)
def vv (c : Dev nD) : FVec F S256x1024 .f32 := k0_pay4 (xs m c) (wvs m c)
def vb (c : Dev nD) : FVec F S256x1024 .bf16 := k0_pay5 (vv m c)
def h0 (c : Dev nD) : FVec F S256x128 .f32 := k0_pay6 (qv m c) (kv m c) (vv m c)
def h1 (c : Dev nD) : FVec F S256x128 .f32 := k0_pay7 (qv m c) (kv m c) (vv m c)
def h2 (c : Dev nD) : FVec F S256x128 .f32 := k0_pay8 (qv m c) (kv m c) (vv m c)
def h3 (c : Dev nD) : FVec F S256x128 .f32 := k0_pay12 (k0_pay9 (vv m c)) (k0_pay10 (qv m c) (kv m c)) (k0_pay11 (qv m c) (kv m c))
def h4 (c : Dev nD) : FVec F S256x128 .f32 := k0_pay13 (qv m c) (kv m c) (vb m c)
def h5 (c : Dev nD) : FVec F S256x128 .f32 := k0_pay14 (qv m c) (kv m c) (vb m c)
def h6 (c : Dev nD) : FVec F S256x128 .f32 := k0_pay15 (qv m c) (kv m c) (vb m c)
def att (c : Dev nD) : FVec F S256x1024 .bf16 :=
  k0_pay16 (qv m c) (kv m c) (vb m c) (h0 m c) (h1 m c) (h2 m c) (h3 m c) (h4 m c) (h5 m c) (h6 m c)
def wot (c : Dev nD) : FVec F S1024x1024 .bf16 := k0_pay17 (wos m c)

/-- The partial sums: `kRQ` the running sum of chunk `Q` before round `R`'s exchange, `sRQ` what is put in the send buffer. -/
def k00 (c : Dev nD) : FVec F S256x384 .bf16 :=
  k0_pay18 (qv m c) (kv m c) (vb m c) (h0 m c) (h1 m c) (h2 m c) (h3 m c) (h4 m c) (h5 m c) (h6 m c) (wos m c)
def s00 (c : Dev nD) : FVec F S256x384 .bf16 :=
  k0_pay19 (qv m c) (kv m c) (vb m c) (h0 m c) (h1 m c) (h2 m c) (h3 m c) (h4 m c) (h5 m c) (h6 m c) (wos m c)
def k01 (c : Dev nD) : FVec F S256x384 .bf16 :=
  k0_pay20 (qv m c) (kv m c) (vb m c) (h0 m c) (h1 m c) (h2 m c) (h3 m c) (h4 m c) (h5 m c) (h6 m c) (wos m c)
def s01 (c : Dev nD) : FVec F S256x384 .bf16 := k0_pay21 (k01 m c)
def k02 (c : Dev nD) : FVec F S256x256 .bf16 := k0_pay22 (att m c) (wot m c)
def s02 (c : Dev nD) : FVec F S256x256 .bf16 := k0_pay23 (att m c) (wot m c)
def k10 (c : Dev nD) : FVec F S256x384 .bf16 := k0_pay24 (k00 m c) (ldW (s00 m (peer (jx 0) c)))
def s10 (c : Dev nD) : FVec F S256x384 .bf16 := k0_pay25 (k00 m c) (ldW (s00 m (peer (jx 0) c)))
def k11 (c : Dev nD) : FVec F S256x384 .bf16 := k0_pay26 (k01 m c) (ldW (s01 m (peer (jx 1) c)))
def s11 (c : Dev nD) : FVec F S256x384 .bf16 := k0_pay27 (k01 m c) (ldW (s01 m (peer (jx 1) c)))
def k12 (c : Dev nD) : FVec F S256x256 .bf16 := k0_pay28 (k02 m c) (ldN (s02 m (peer (jx 2) c)))
def s12 (c : Dev nD) : FVec F S256x256 .bf16 := k0_pay29 (k02 m c) (ldN (s02 m (peer (jx 2) c)))
def k20 (c : Dev nD) : FVec F S256x384 .bf16 := k0_pay30 (k10 m c) (ldW (s10 m (peer (jx 3) c)))
def s20 (c : Dev nD) : FVec F S256x384 .bf16 := k0_pay31 (k10 m c) (ldW (s10 m (peer (jx 3) c)))
def k21 (c : Dev nD) : FVec F S256x384 .bf16 := k0_pay32 (k11 m c) (ldW (s11 m (peer (jx 4) c)))
def s21 (c : Dev nD) : FVec F S256x384 .bf16 := k0_pay33 (k11 m c) (ldW (s11 m (peer (jx 4) c)))
def k22 (c : Dev nD) : FVec F S256x256 .bf16 := k0_pay34 (k12 m c) (ldN (s12 m (peer (jx 5) c)))
def s22 (c : Dev nD) : FVec F S256x256 .bf16 := k0_pay35 (k12 m c) (ldN (s12 m (peer (jx 5) c)))
/-- The three column chunks of the result. -/
def out0 (c : Dev nD) : FVec F S256x384 .f32 := k0_pay37 (k0_pay36 (k20 m c) (ldW (s20 m (peer (jx 6) c))))
def out1 (c : Dev nD) : FVec F S256x384 .f32 := k0_pay38 (k21 m c) (ldW (s21 m (peer (jx 7) c)))
def out2 (c : Dev nD) : FVec F S256x256 .f32 := k0_pay39 (k22 m c) (ldN (s22 m (peer (jx 8) c)))

/-! ## Points-to assertions through a memref, and the payloads -/

/-- A memref's elements on device `c`, owned outright at contents `f`. -/
def mpts {s : Shape} {e : EltTy} (b : Memref sig .tc .vmem s e) (c : Dev nD) (f : Buf (Elt F) (b.view.loc (c : Thread nD τ))) : sProp 𝕄 :=
  b.view.loc (c : Thread nD τ) ↦[b.view.set]{fullShare} f

/-- The same, of contents that read `v` through the memref. -/
def reads {s : Shape} {e : EltTy} (b : Memref sig .tc .vmem s e) (c : Dev nD) (v : s.Idx → Elt F e) : sProp 𝕄 :=
  iprop(∃ f, ⌜b.view.read (Elt F) f = v⌝ ∗ mpts b c f)

/-- The same, of any contents. -/
def anyAt {s : Shape} {e : EltTy} (b : Memref sig .tc .vmem s e) (c : Dev nD) : sProp 𝕄 := iprop(∃ f, mpts b c f)

omit [FloatOps F] [Named F] in
instance mpts_storable {s : Shape} {e : EltTy} (b : Memref sig .tc .vmem s e) (c : Dev nD) (f) :
    BI.Storable (upEmb : UEmb _ 𝕄) (mpts (F := F) b c f) := by unfold mpts; infer_instance
omit [FloatOps F] [Named F] in
instance reads_storable {s : Shape} {e : EltTy} (b : Memref sig .tc .vmem s e) (c : Dev nD) (v) :
    BI.Storable (upEmb : UEmb _ 𝕄) (reads (F := F) b c v) := by unfold reads; infer_instance
omit [FloatOps F] [Named F] in
instance anyAt_storable {s : Shape} {e : EltTy} (b : Memref sig .tc .vmem s e) (c : Dev nD) :
    BI.Storable (upEmb : UEmb _ 𝕄) (anyAt (F := F) b c) := by unfold anyAt; infer_instance

/-- The landing slot of transfer `x` on device `c`, at any contents. -/
def landAny (x : Fin 9) (c : Dev nD) : sProp 𝕄 :=
  match x with
  | 0 => anyAt t00 c | 1 => anyAt t01 c | 2 => anyAt t02 c
  | 3 => anyAt t10 c | 4 => anyAt t11 c | 5 => anyAt t12 c
  | 6 => anyAt t20 c | 7 => anyAt t21 c | 8 => anyAt t22 c

/-- The send buffer of transfer `x` on device `c`, holding what is sent: it comes back with the source's credit. -/
def sendPay (x : Fin 9) (c : Dev nD) : sProp 𝕄 :=
  match x with
  | 0 => reads sM0 c (s00 m c) | 1 => reads sM1 c (s01 m c) | 2 => reads sM2 c (s02 m c)
  | 3 => reads sM0 c (s10 m c) | 4 => reads sM1 c (s11 m c) | 5 => reads sM2 c (s12 m c)
  | 6 => reads sM0 c (s20 m c) | 7 => reads sM1 c (s21 m c) | 8 => reads sM2 c (s22 m c)

/-- The landing slot of transfer `x` on device `c`, holding what its partner sent. -/
def recvPay (x : Fin 9) (c : Dev nD) : sProp 𝕄 :=
  match x with
  | 0 => reads t00 c (s00 m (peer (jx 0) c)) | 1 => reads t01 c (s01 m (peer (jx 1) c)) | 2 => reads t02 c (s02 m (peer (jx 2) c))
  | 3 => reads t10 c (s10 m (peer (jx 3) c)) | 4 => reads t11 c (s11 m (peer (jx 4) c)) | 5 => reads t12 c (s12 m (peer (jx 5) c))
  | 6 => reads t20 c (s20 m (peer (jx 6) c)) | 7 => reads t21 c (s21 m (peer (jx 7) c)) | 8 => reads t22 c (s22 m (peer (jx 8) c))

/-- The three transfers that go to partner `d`. -/
def xOf (d : Fin 3) : Fin 3 → Fin 9 := (![![0, 5, 7], ![1, 3, 8], ![2, 4, 6]] : Fin 3 → Fin 3 → Fin 9) d

/-- What partner `d` of device `c` hands it with its barrier signal: the three slots `c` will send into. -/
def barPay (d : Fin 3) (c : Dev nD) : sProp 𝕄 :=
  iprop(landAny (xOf d 0) (peer d c) ∗ landAny (xOf d 1) (peer d c) ∗ landAny (xOf d 2) (peer d c))

omit [FloatOps F] [Named F] in
instance landAny_storable (x : Fin 9) (c : Dev nD) : BI.Storable (upEmb : UEmb _ 𝕄) (landAny (F := F) x c) := by
  unfold landAny; split <;> infer_instance
instance sendPay_storable (x : Fin 9) (c : Dev nD) : BI.Storable (upEmb : UEmb _ 𝕄) (sendPay (F := F) m x c) := by
  unfold sendPay; split <;> infer_instance
instance recvPay_storable (x : Fin 9) (c : Dev nD) : BI.Storable (upEmb : UEmb _ 𝕄) (recvPay (F := F) m x c) := by
  unfold recvPay; split <;> infer_instance

/-! ## The schedule -/

/-- Is a semaphore the barrier's, a source's, a landing's? -/
abbrev IsBar (g : GSem nD τ sig) : Prop := g.1.2 = .tc ∧ g.2 = .reg barS
def isX (sm : SemLoc sig) : Option (Bool × Fin 9) :=
  match sm with
  | .reg _ => none
  | .dma s => if h : 6 ≤ s.val ∧ s.val < 15 then some (false, ⟨s.val - 6, by omega⟩)
      else if h : 15 ≤ s.val ∧ s.val < 24 then some (true, ⟨s.val - 15, by omega⟩) else none

theorem isX_send (x : Fin 9) : isX (.dma (sendS x)) = some (false, x) := by revert x; decide
theorem isX_recv (x : Fin 9) : isX (.dma (recvS x)) = some (true, x) := by revert x; decide

/-- One round: a barrier cell has three duties of one unit, a transfer's cells one duty of its credit each. -/
def xRd : Rounds.Schedule (GSem nD τ sig) (Fin 3) 𝕄 where
  duties g r := if r = 0 ∧ IsBar g then Finset.univ else if r = 0 ∧ g.1.2 = .tc ∧ (isX g.2).isSome then {0} else ∅
  unitless _ := False
  amount g _ _ := match isX g.2 with
    | some (_, x) => Nx x
    | none => 1
  payload g _ d := match isX g.2 with
    | some (true, x) => recvPay m x g.1.1
    | some (false, x) => sendPay m x g.1.1
    | none => barPay d g.1.1
  amount_pos g _ _ _ := by
    split
    · exact Nx_pos _
    · exact Nat.one_pos

instance xRd_payload_storable (g : GSem nD τ sig) (r : ℕ) (d : Fin 3) :
    BI.Storable (upEmb : UEmb _ 𝕄) ((xRd (F := F) m).payload g r d) := by
  dsimp only [xRd]
  split
  · infer_instance
  · infer_instance
  · unfold barPay; infer_instance

section Sched
variable (x : Fin 9) (c : Dev nD)

theorem not_bar_send : ¬ IsBar (sendCell x c) := fun h => by cases h.2
theorem not_bar_recv : ¬ IsBar (recvCell x c) := fun h => by cases h.2

theorem duties_bar : (xRd (F := F) m).duties (barCell c) 0 = Finset.univ := by dsimp only [xRd]; exact if_pos ⟨rfl, rfl, rfl⟩
theorem duties_send : (xRd (F := F) m).duties (sendCell x c) 0 = {0} := by
  dsimp only [xRd]; rw [if_neg (fun h => not_bar_send x c h.2)]; exact if_pos ⟨rfl, rfl, by rw [isX_send]; rfl⟩
theorem duties_recv : (xRd (F := F) m).duties (recvCell x c) 0 = {0} := by
  dsimp only [xRd]; rw [if_neg (fun h => not_bar_recv x c h.2)]; exact if_pos ⟨rfl, rfl, by rw [isX_recv]; rfl⟩
theorem duties_later (g : GSem nD τ sig) : ∀ r, 1 ≤ r → (xRd (F := F) m).duties g r = ∅ :=
  fun r hr => by dsimp only [xRd]; rw [if_neg fun h => by omega, if_neg fun h => by omega]

theorem amount_bar (d : Fin 3) : (xRd (F := F) m).amount (barCell c) 0 d = 1 := rfl
theorem amount_send (d : Fin 3) : (xRd (F := F) m).amount (sendCell x c) 0 d = Nx x := by dsimp only [xRd]; rw [isX_send]
theorem amount_recv (d : Fin 3) : (xRd (F := F) m).amount (recvCell x c) 0 d = Nx x := by dsimp only [xRd]; rw [isX_recv]

theorem expect_bar : (xRd (F := F) m).expect (barCell c) 0 = 3 := by
  unfold Schedule.expect Schedule.amountOf
  rw [duties_bar, Finset.sum_congr rfl fun d _ => amount_bar m c d]; rfl
theorem expect_send : (xRd (F := F) m).expect (sendCell x c) 0 = Nx x := by
  unfold Schedule.expect Schedule.amountOf; rw [duties_send, Finset.sum_singleton, amount_send]
theorem expect_recv : (xRd (F := F) m).expect (recvCell x c) 0 = Nx x := by
  unfold Schedule.expect Schedule.amountOf; rw [duties_recv, Finset.sum_singleton, amount_recv]

theorem payload_bar (d : Fin 3) : (xRd (F := F) m).payload (barCell c) 0 d = barPay d c := rfl
theorem payload_send (d : Fin 3) : (xRd (F := F) m).payload (sendCell x c) 0 d = sendPay m x c := by dsimp only [xRd]; rw [isX_send]
theorem payload_recv (d : Fin 3) : (xRd (F := F) m).payload (recvCell x c) 0 d = recvPay m x c := by dsimp only [xRd]; rw [isX_recv]

/-- The whole round's payloads, cell by cell. -/
theorem rest_bar : bigSep ((xRd (F := F) m).duties (barCell c) 0 \ ∅) (fun d => (xRd (F := F) m).payload (barCell c) 0 d)
    = iprop(barPay 0 c ∗ barPay 1 c ∗ barPay 2 c) := by
  rw [Finset.sdiff_empty, duties_bar, bigSep_univ_eq_bigSepL [0, 1, 2] (by decide) (by decide)]
  rfl
theorem rest_send : bigSep ((xRd (F := F) m).duties (sendCell x c) 0 \ ∅) (fun d => (xRd (F := F) m).payload (sendCell x c) 0 d) = sendPay m x c := by
  rw [Finset.sdiff_empty, duties_send, bigSep_singleton, payload_send]
theorem rest_recv : bigSep ((xRd (F := F) m).duties (recvCell x c) 0 \ ∅) (fun d => (xRd (F := F) m).payload (recvCell x c) 0 d) = recvPay m x c := by
  rw [Finset.sdiff_empty, duties_recv, bigSep_singleton, payload_recv]

end Sched

/-! ## What a device owes; the levels -/

/-- What device `c` owes the landing cells of its transfers `n, …, 8`. -/
def OwS (c : Dev nD) (n : ℕ) : CellTallies nD τ sig Unit :=
  ∑ y : Fin 9, if n ≤ y.val then tallyAt (recvCell y (peer (jx y) c)) () (Nx y) else 0

/-- At launch: those nine, and one unit to each partner's barrier cell (the first signalled last in the sum). -/
def O₀ (c : Dev nD) : CellTallies nD τ sig Unit :=
  ((OwS c 0 + tallyAt (barCell (peer 2 c)) () 1) + tallyAt (barCell (peer 1 c)) () 1) + tallyAt (barCell (peer 0 c)) () 1

/-- Sending transfer `x` takes its credit off. -/
theorem OwS_peel (c : Dev nD) (x : Fin 9) : OwS c x.val = OwS c (x.val + 1) + tallyAt (recvCell x (peer (jx x) c)) () (Nx x) := by
  unfold OwS
  rw [← Finset.sum_erase_add _ _ (Finset.mem_univ x), if_pos le_rfl,
    ← Finset.sum_erase_add (Finset.univ : Finset (Fin 9)) (fun y : Fin 9 => if x.val + 1 ≤ y.val then tallyAt (recvCell y (peer (jx y) c)) () (Nx y) else 0)
      (Finset.mem_univ x), if_neg (by omega), add_zero]
  congr 1
  refine Finset.sum_congr rfl fun y hy => ?_
  have hne : y.val ≠ x.val := fun h => (Finset.mem_erase.mp hy).1 (Fin.ext h)
  by_cases h : x.val ≤ y.val
  · rw [if_pos h, if_pos (by omega)]
  · rw [if_neg h, if_neg (by omega)]

/-- After the nine sends nothing is owed. -/
theorem OwS_nine (c : Dev nD) : OwS c 9 = 0 := by
  unfold OwS
  exact Finset.sum_eq_zero fun y _ => if_neg (by have := y.isLt; omega)

/-- A cell owed something after `n` sends is the landing cell of a transfer not yet sent. -/
theorem OwS_pos {c : Dev nD} {n : ℕ} {g : GSem nD τ sig} {u : Unit} (h : 0 < OwS c n g u) :
    ∃ y : Fin 9, n ≤ y.val ∧ g = recvCell y (peer (jx y) c) := by
  unfold OwS at h
  rw [Finset.sum_apply, Finsupp.finsetSum_apply] at h
  by_contra hn
  rw [Finset.sum_eq_zero] at h
  · exact Nat.lt_irrefl 0 h
  · intro y _
    by_cases hy : n ≤ y.val
    · rw [if_pos hy, tallyAt_apply, if_neg fun h' => hn ⟨y, hy, h'.1⟩]
    · rw [if_neg hy]; rfl

theorem O₀_pos {c : Dev nD} {g : GSem nD τ sig} {u : Unit} (h : 0 < O₀ c g u) :
    (∃ y : Fin 9, g = recvCell y (peer (jx y) c)) ∨ ∃ j, g = barCell (peer j c) := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨y, -, hy⟩ := OwS_pos (c := c) (n := 0) (g := g) (u := u) (by omega)
  exact hn.1 ⟨y, hy⟩

def L (g : GSem nD τ sig) : Finset Unit := if g.1.2 = .tc then {()} else ∅
/-- Staging and source cells at 0, barrier cells at 1, the landing cell of transfer `x` at `2 + x`. -/
def lv (g : GSem nD τ sig) (_ : Unit) : ℕ :=
  if g.2 = .reg barS then 1 else match isX g.2 with
    | some (true, x) => 2 + x.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (x : Fin 9) (c : Dev nD) (u : Unit) : lv (recvCell x c) u = 2 + x.val := by
  unfold lv; rw [if_neg (fun h => by cases h), isX_recv]
theorem lv_dma (c : Dev nD) (q : DmaSem sig) (hq : q.val < 15) (u : Unit) : lv ((c : Thread nD τ), .dma q) u = 0 := by
  unfold lv; rw [if_neg (fun h => by cases h)]
  have key : ∀ q : DmaSem sig, q.val < 15 → (match isX (.dma q) with | some (true, x) => 2 + x.val | _ => 0) = 0 := by decide
  exact key q hq

/-- Waiting on a staging or source cell, whatever of the launch's dues is still owed. -/
theorem mayWait_low (c : Dev nD) (q : DmaSem sig) (hq : q.val < 15) (O : CellTallies nD τ sig Unit)
    (hO : O = O₀ c ∨ ∃ n, O = OwS c n) :
    (levAts L lv : sProp 𝕄) ⊢ MayWait (c : Thread nD τ) (.dma q) () O := by
  have key : ∀ g u, 0 < O g u → (∃ (y : Fin 9) (d : Dev nD), g = recvCell y d) ∨ ∃ d, g = barCell d := by
    intro g u hg
    rcases hO with rfl | ⟨n, rfl⟩
    · rcases O₀_pos hg with ⟨y, rfl⟩ | ⟨j, rfl⟩
      · exact .inl ⟨y, _, rfl⟩
      · exact .inr ⟨_, rfl⟩
    · obtain ⟨y, -, rfl⟩ := OwS_pos hg
      exact .inl ⟨y, _, rfl⟩
  refine MayOwe.of_cut (L := L) (lev := lv) 0 (fun p hp => by rw [Finset.mem_singleton.mp hp, L_tc]; exact Finset.mem_singleton_self _)
    (fun g u hg => by rcases key g u hg with ⟨y, d, rfl⟩ | ⟨d, rfl⟩ <;> exact Finset.mem_singleton_self _)
    (fun p hp => by rw [Finset.mem_singleton.mp hp, lv_dma c q hq])
    (fun g u hg => by
      rcases key g u hg with ⟨y, d, rfl⟩ | ⟨d, rfl⟩
      · rw [lv_recv]; omega
      · rw [lv_bar]; omega)

/-- Waiting on its barrier cell, owing the landing cells only. -/
theorem mayWait_bar (c : Dev nD) (n : ℕ) :
    (levAts L lv : sProp 𝕄) ⊢ MayWait (c : Thread nD τ) (.reg barS) () (OwS c n) := by
  refine MayOwe.of_cut (L := L) (lev := lv) 1 (fun p hp => by rw [Finset.mem_singleton.mp hp, L_tc]; exact Finset.mem_singleton_self _)
    (fun g u hg => by obtain ⟨y, -, rfl⟩ := OwS_pos hg; exact Finset.mem_singleton_self _)
    (fun p hp => by rw [Finset.mem_singleton.mp hp, lv_bar])
    (fun g u hg => by obtain ⟨y, -, rfl⟩ := OwS_pos hg; rw [lv_recv]; omega)

/-- Waiting on the landing cell of transfer `x` when more than `x` transfers are sent. -/
theorem mayWait_recv (c : Dev nD) (x : Fin 9) (n : ℕ) (hn : x.val < n) :
    (levAts L lv : sProp 𝕄) ⊢ MayWait (c : Thread nD τ) (.dma (recvS x)) () (OwS c n) := by
  refine MayOwe.of_cut (L := L) (lev := lv) (2 + x.val) (fun p hp => by rw [Finset.mem_singleton.mp hp, L_tc]; exact Finset.mem_singleton_self _)
    (fun g u hg => by obtain ⟨y, -, rfl⟩ := OwS_pos hg; exact Finset.mem_singleton_self _)
    (fun p hp => by rw [Finset.mem_singleton.mp hp, lv_recv])
    (fun g u hg => by obtain ⟨y, hy, rfl⟩ := OwS_pos hg; rw [lv_recv]; omega)

end Cert.Exchange

end
-- ==== Proof.Steps.lean ====
/-
# 01_k — the steps of the kernel: one lemma for each kind of memory or semaphore operation it makes
-/
module

public import proofs.«01_k».proof.Proof.Proto
public import Idealize.ShloMosaic.Lib.VecWindow

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What every device may use at any time: all cells' invariants and first rounds, and the levels -/

/-- Every cell's invariant under the names `K`, and that its round 0 is reached. -/
def records (K : Dev nD × Fin 19 → ℕ) : sProp 𝕄 :=
  iprop((bigSep Finset.univ fun ck : Dev nD × Fin 19 => cellInv ER (xRd m) (K ck) (kcell ck))
    ∗ bigSep Finset.univ fun ck : Dev nD × Fin 19 => reached ER (kcell ck) 0)

instance records_persistent (K : Dev nD × Fin 19 → ℕ) : BI.Persistent (records m K) := by unfold records; infer_instance

/-- Those and the levels. -/
def env (K : Dev nD × Fin 19 → ℕ) : sProp 𝕄 := iprop(records m K ∗ levAts L lv)

instance env_persistent (K : Dev nD × Fin 19 → ℕ) : BI.Persistent (env m K) := by unfold env; infer_instance

variable (K : Dev nD × Fin 19 → ℕ)

theorem env_inv (ck : Dev nD × Fin 19) : env m K ⊢ cellInv ER (xRd m) (K ck) (kcell ck) := by
  unfold env records
  iintro ⟨⟨H, -⟩, -⟩
  iapply (show (bigSep Finset.univ fun ck : Dev nD × Fin 19 => (cellInv ER (xRd m) (K ck) (kcell ck) : sProp 𝕄)) ⊢ cellInv ER (xRd m) (K ck) (kcell ck)
    from bigSep_elim (Finset.mem_univ ck)); iexact H
theorem env_reached (ck : Dev nD × Fin 19) : env m K ⊢ (reached ER (kcell ck) 0 : sProp 𝕄) := by
  unfold env records
  iintro ⟨⟨-, H⟩, -⟩
  iapply (show (bigSep Finset.univ fun ck : Dev nD × Fin 19 => (reached ER (kcell ck) 0 : sProp 𝕄)) ⊢ reached ER (kcell ck) 0
    from bigSep_elim (Finset.mem_univ ck)); iexact H
theorem env_lev : env m K ⊢ (levAts L lv : sProp 𝕄) := by
  unfold env; iintro ⟨-, H⟩; iexact H

theorem env_inv_send (x : Fin 9) (c : Dev nD) : env m K ⊢ cellInv ER (xRd m) (K (c, kS x)) (sendCell x c) := by
  rw [← kcell_send]; exact env_inv m K (c, kS x)
theorem env_inv_recv (x : Fin 9) (c : Dev nD) : env m K ⊢ cellInv ER (xRd m) (K (c, kR x)) (recvCell x c) := by
  rw [← kcell_recv]; exact env_inv m K (c, kR x)
theorem env_reached_send (x : Fin 9) (c : Dev nD) : env m K ⊢ (reached ER (sendCell x c) 0 : sProp 𝕄) := by
  rw [← kcell_send]; exact env_reached m K (c, kS x)
theorem env_reached_recv (x : Fin 9) (c : Dev nD) : env m K ⊢ (reached ER (recvCell x c) 0 : sProp 𝕄) := by
  rw [← kcell_recv]; exact env_reached m K (c, kR x)

/-- What a device owes, whatever waits it has made. -/
def owesAny (c : Dev nD) (O : CellTallies nD τ sig Unit) : sProp 𝕄 := iprop(∃ W, owes (c : Thread nD τ) O W)

/-! ## One step of the kernel each -/

/-- The signal to partner `j`'s barrier cell, with the landing slots that partner will send into. -/
theorem signal_step (c n : Dev nD) (j : Fin 3) (hn : n = peer j c) (O : CellTallies nD τ sig Unit)
    {α : Type} {Q : α → sProp 𝕄} {k : PUnit → Prog (TpuEff nD τ sig (Elt F) Λ₀ .tc) α} :
    iprop(env m K ∗ dutyTok ER (barCell (peer j c)) 0 j ∗ barPay j (peer j c) ∗ owesAny c (O + tallyAt (barCell (peer j c)) () 1))
      ⊢ iprop((owesAny c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  unfold owesAny
  iintro ⟨#He, Ht, Hp, ⟨%W, HO⟩⟩ Hk
  iapply (Rounds.wp_signal 𝒱₀ ER (xRd m) (c : Thread nD τ) none (dst := (peer j c : Thread nD τ)) (κ := K (peer j c, 0))
      (d := j) (by rw [duties_bar]; exact Finset.mem_univ _) (amount_bar m (peer j c) j) () O rfl) $$ [HO Ht Hp]
  · isplitr; · iapply (env_inv m K (peer j c, 0)); iexact He
    isplitl [HO]; · iexact HO
    isplitl [Ht]; · iexact Ht
    isplitl [Hp]; · rw [payload_bar]; iexact Hp
    iapply (env_reached m K (peer j c, 0)); iexact He
  iintro HO
  iapply Hk
  iexists W; iexact HO

/-- The wait on its own barrier cell: the landing slots on its three partners come with it, and the cell closes. -/
theorem barrier_step (c : Dev nD) (n : ℕ) {α : Type} {Q : α → sProp 𝕄} {k : PUnit → Prog (TpuEff nD τ sig (Elt F) Λ₀ .tc) α} :
    iprop(env m K ∗ cred (tallyAt (barCell c) () 3) ∗ atPos ER (barCell c) 0 ∅ 0 ∗ owesAny c (OwS c n))
      ⊢ iprop(((barPay 0 c ∗ barPay 1 c ∗ barPay 2 c ∗ semVal (barCell c) 0 ∗ owesAny c (OwS c n))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold owesAny
  iintro ⟨#He, Hc, Ha, ⟨%W, HO⟩⟩ Hk
  iapply (Rounds.wp_wait_rest_token 𝒱₀ ER (xRd m) (c : Thread nD τ) none (κ := K (c, 0))
      (wpE_semWait_eq 𝒱₀ (c : Thread nD τ) none Set.univ) (Set.mem_univ _) () (O := OwS c n) (W := W) (R := 0) (m := 0) (T := ∅)
      (by rw [expect_bar])) $$ [Hc HO Ha]
  · isplitr; · iapply (env_inv m K (c, 0)); iexact He
    isplitl [Hc]; · iexact Hc
    isplitl [HO]; · iexact HO
    isplitr; · iapply (mayWait_bar c n); iapply (env_lev m K); iexact He
    iexact Ha
  iintro ⟨HO, Ha, -, Hpay⟩
  ihave Hp := (Entails.of_eq (rest_bar m c)) $$ Hpay
  imod (Rounds.cell_close ER (xRd m) (Set.mem_univ (K (c, 0))) (fun h => h) (R := 0 + 1) (duties_later m (barCell c))) $$ [Ha] with Hz
  · isplitr; · iapply (env_inv m K (c, 0)); iexact He
    iexact Ha
  iapply Hk
  icases Hp with ⟨H0, H1, H2⟩
  isplitl [H0]; · iexact H0
  isplitl [H1]; · iexact H1
  isplitl [H2]; · iexact H2
  isplitl [Hz]; · iexact Hz
  iexists _; iexact HO

/-- Transfer `x`: the send buffer holding `v` goes into the landing slot on its partner; its source credit is in flight. -/
theorem send_step (c n : Dev nD) (x : Fin 9) (hn : n = peer (jx x) c) {s : Shape} (src dst : Memref sig .tc .vmem s .bf16)
    {qS qR : DmaSem sig} (hqS : qS = sendS x) (hqR : qR = recvS x) (v : s.Idx → Elt F .bf16)
    (hs : sendPay m x c = reads src c v) (hr : recvPay m x (peer (jx x) c) = reads dst (peer (jx x) c) v)
    (hN : dst.view.dmaCredit = Nx x)
    {hsc : (dst : Memref sig (Dev.tc n : Thread nD τ).2.kind .vmem s .bf16).view.ref.isScScratch = false}
    {hsrc : src.view.WordExact} {hdst : dst.view.WordExact}
    {hsem : DmaTarget.Typed .vmem (.dma qR) (.remote (Dev.tc n : Thread nD τ) dst (.dma qS) hsc)}
    {α : Type} {Q : α → sProp 𝕄} {k : PUnit → Prog (TpuEff nD τ sig (Elt F) Λ₀ .tc) α} :
    iprop(env m K ∗ reads src c v ∗ anyAt dst (peer (jx x) c) ∗ dutyTok ER (sendCell x c) 0 0 ∗ dutyTok ER (recvCell x (peer (jx x) c)) 0 0
        ∗ owesAny c (OwS c x.val))
      ⊢ iprop(((cred (tallyAt (sendCell x c) () (Nx x)) ∗ owesAny c (OwS c (x.val + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) k) Q) := by
  subst hn hqS hqR
  unfold anyAt owesAny
  iintro ⟨#He, Hsrc, ⟨%fd, Hdst⟩, Ht1, Ht2, ⟨%W, HO⟩⟩ Hk
  unfold reads
  icases Hsrc with ⟨%fs, %hfs, Hsrc⟩
  unfold mpts
  iapply (Rounds.wp_send_pointsTo 𝒱₀ ER (xRd m) (c : Thread nD τ) none (κ₁ := K (c, kS x)) (κ₂ := K (peer (jx x) c, kR x))
      (r₁ := 0) (r₂ := 0) (d₁ := 0) (d₂ := 0) (fs := fs) (fd := fd)
      (by rw [duties_send]; exact Finset.mem_singleton_self _) (by rw [duties_recv]; exact Finset.mem_singleton_self _)
      () () (Nx x) (by exact hN) (amount_send m x c 0) (amount_recv m x (peer (jx x) c) 0) (OwS c (x.val + 1)) (OwS_peel c x) (W := W)
      (by
        rw [payload_send, hs]; unfold reads mpts
        iintro H; iexists fs
        isplitr; · ipureintro; exact hfs
        iexact H)
      (by
        rw [payload_recv, hr]; unfold reads mpts
        iintro H; iexists (dst.view.write (Elt F) fd (src.view.read (Elt F) fs) Finset.univ)
        isplitr
        · ipureintro; exact (View.read_write_univ (v := dst.view) (Val := Elt F) fd _).trans hfs
        iexact H)) $$ [Hsrc Hdst Ht1 Ht2 HO]
  · isplitr; · iapply (env_inv_send m K x c); iexact He
    isplitr; · iapply (env_inv_recv m K x (peer (jx x) c)); iexact He
    isplitl [Hsrc]; · iexact Hsrc
    isplitl [Hdst]; · iexact Hdst
    isplitl [HO]; · iexact HO
    isplitl [Ht1]; · iexact Ht1
    isplitr; · iapply (env_reached_send m K x c); iexact He
    isplitl [Ht2]; · iexact Ht2
    iapply (env_reached_recv m K x (peer (jx x) c)); iexact He
  iintro ⟨Hc, HO⟩
  iapply Hk
  isplitl [Hc]; · iexact Hc
  iexists W; iexact HO

/-- The wait on a source cell: the send buffer comes back, and the cell closes. -/
theorem waitSend_step (c : Dev nD) (x : Fin 9) (n : ℕ) {q : DmaSem sig} (hq : q = sendS x) {sp sp' : Space} {s s' : Shape} {e e' : EltTy}
    {src : Memref sig .tc sp' s' e'} {dst : Memref sig .tc sp s e} (hN : dst.view.dmaCredit = Nx x)
    {hsrc : src.view.WordExact} {hdst : dst.view.WordExact} {α : Type} {Q : α → sProp 𝕄} {k : PUnit → Prog (TpuEff nD τ sig (Elt F) Λ₀ .tc) α} :
    iprop(env m K ∗ cred (tallyAt (sendCell x c) () (Nx x)) ∗ atPos ER (sendCell x c) 0 ∅ 0 ∗ owesAny c (OwS c n))
      ⊢ iprop(((sendPay m x c ∗ semVal (sendCell x c) 0 ∗ owesAny c (OwS c n))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold owesAny
  iintro ⟨#He, Hc, Ha, ⟨%W, HO⟩⟩ Hk
  iapply (Rounds.wp_wait_rest_token 𝒱₀ ER (xRd m) (c : Thread nD τ) none (κ := K (c, kS x))
      (wpE_waitDma2_eq 𝒱₀ (c : Thread nD τ) none Set.univ) (Set.mem_univ _) () (O := OwS c n) (W := W) (R := 0) (m := 0) (T := ∅)
      (by rw [expect_send, hN, Nat.zero_add])) $$ [Hc HO Ha]
  · isplitr; · iapply (env_inv_send m K x c); iexact He
    isplitl [Hc]; · rw [hN]; iexact Hc
    isplitl [HO]; · iexact HO
    isplitr
    · iapply (mayWait_low c (sendS x) (by have := x.isLt; show 6 + x.val < 15; omega) _ (.inr ⟨n, rfl⟩)); iapply (env_lev m K); iexact He
    iexact Ha
  iintro ⟨HO, Ha, -, Hpay⟩
  ihave Hp := (Entails.of_eq (rest_send m x c)) $$ Hpay
  imod (Rounds.cell_close ER (xRd m) (Set.mem_univ (K (c, kS x))) (fun h => h) (R := 0 + 1) (duties_later m (sendCell x c))) $$ [Ha] with Hz
  · isplitr; · iapply (env_inv_send m K x c); iexact He
    iexact Ha
  iapply Hk
  isplitl [Hp]; · iexact Hp
  isplitl [Hz]; · iexact Hz
  iexists _; iexact HO

/-- The wait on a landing cell, more than `x` transfers sent: the slot holding the partner's block, and the cell closes. -/
theorem waitRecv_step (c : Dev nD) (x : Fin 9) (n : ℕ) (hn : x.val < n) {q : DmaSem sig} (hq : q = recvS x) {sp sp' : Space} {s s' : Shape} {e e' : EltTy}
    {src : Memref sig .tc sp' s' e'} {dst : Memref sig .tc sp s e} (hN : dst.view.dmaCredit = Nx x)
    {hsrc : src.view.WordExact} {hdst : dst.view.WordExact} {α : Type} {Q : α → sProp 𝕄} {k : PUnit → Prog (TpuEff nD τ sig (Elt F) Λ₀ .tc) α} :
    iprop(env m K ∗ cred (tallyAt (recvCell x c) () (Nx x)) ∗ atPos ER (recvCell x c) 0 ∅ 0 ∗ owesAny c (OwS c n))
      ⊢ iprop(((recvPay m x c ∗ semVal (recvCell x c) 0 ∗ owesAny c (OwS c n))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold owesAny
  iintro ⟨#He, Hc, Ha, ⟨%W, HO⟩⟩ Hk
  iapply (Rounds.wp_wait_rest_token 𝒱₀ ER (xRd m) (c : Thread nD τ) none (κ := K (c, kR x))
      (wpE_waitDma2_eq 𝒱₀ (c : Thread nD τ) none Set.univ) (Set.mem_univ _) () (O := OwS c n) (W := W) (R := 0) (m := 0) (T := ∅)
      (by rw [expect_recv, hN, Nat.zero_add])) $$ [Hc HO Ha]
  · isplitr; · iapply (env_inv_recv m K x c); iexact He
    isplitl [Hc]; · rw [hN]; iexact Hc
    isplitl [HO]; · iexact HO
    isplitr
    · iapply (mayWait_recv c x n hn); iapply (env_lev m K); iexact He
    iexact Ha
  iintro ⟨HO, Ha, -, Hpay⟩
  ihave Hp := (Entails.of_eq (rest_recv m x c)) $$ Hpay
  imod (Rounds.cell_close ER (xRd m) (Set.mem_univ (K (c, kR x))) (fun h => h) (R := 0 + 1) (duties_later m (recvCell x c))) $$ [Ha] with Hz
  · isplitr; · iapply (env_inv_recv m K x c); iexact He
    iexact Ha
  iapply Hk
  isplitl [Hp]; · iexact Hp
  isplitl [Hz]; · iexact Hz
  iexists _; iexact HO

/-- The load whose value is not used and the store of a whole buffer: it then reads what was stored. -/
theorem store_step (c : Dev nD) {s : Shape} {e : EltTy} (b : Memref sig .tc .vmem s e) {off : Fin s.rank → ℕ}
    (inb : ∀ a, off a + s.size a ≤ s.size a) (w : s.Idx → Elt F e)
    {hl : b.view.LoadsAt (Rect.unit off s.size inb).toLoadRect} {hx : (b.access (Rect.unit off s.size inb)).Stores Finset.univ}
    {hm : (Finset.univ : Finset (Rect.unit off s.size inb).shape.Idx) = Finset.univ ∨ ∀ a, (Rect.unit off s.size inb).stride a = 1}
    {α : Type} {Q : α → sProp 𝕄} {k : PUnit → Prog (TpuEff nD τ sig (Elt F) Λ₀ .tc) α} :
    (anyAt b c : sProp 𝕄)
      ⊢ iprop((reads b c w -∗ wp frame (wpE (defs₀ (F := F)) 𝒱₀ (c : Thread nD τ) none) Set.univ (k ⟨⟩) Q)
          -∗ wp frame (wpE (defs₀ (F := F)) 𝒱₀ (c : Thread nD τ) none) Set.univ
              (.op (.load b (Rect.unit off s.size inb).toLoadRect hl) fun _ => .op (.store b (Rect.unit off s.size inb) w Finset.univ hx hm) k) Q) := by
  unfold anyAt mpts
  iintro ⟨%f, H⟩ Hk
  iapply (wp_load 𝒱₀ (c : Thread nD τ) none Set.univ (m := b) (View.setOn_subset_set _ _)) $$ H; iintro H
  iapply (wp_store 𝒱₀ (c : Thread nD τ) none Set.univ (m := b) (r := Rect.unit off s.size inb) (Mk := Finset.univ)
    (View.set_slice_subset _ _)) $$ H
  iintro H
  iapply Hk
  unfold reads mpts
  iexists _
  isplitr
  · ipureintro
    funext z
    have h := congrFun (View.read_write_univ (v := b.access (Rect.unit off s.size inb)) (Val := Elt F) f w) z
    have h2 : (b.access (Rect.unit off s.size inb)).read (Elt F) ((b.access (Rect.unit off s.size inb)).write (Elt F) f w Finset.univ) z
      = b.view.read (Elt F) ((b.access (Rect.unit off s.size inb)).write (Elt F) f w Finset.univ) ((Rect.unit off s.size inb).emb z) := rfl
    rw [h2, Rect.emb_unit_full] at h
    exact h
  iexact H

/-- The load of a landing slot. -/
theorem loadW_step (c : Dev nD) (b : Memref sig .tc .vmem S3x256x384 .bf16) (n : ℕ)
    (h : ∀ a, (![n, 0, 0] : Fin 3 → Nat) a + S1x256x384.size a ≤ S3x256x384.size a) (v : S256x384.Idx → Elt F .bf16)
    {hl : b.view.LoadsAt (Rect.unit (s := S3x256x384) ![n, 0, 0] S1x256x384.size h).toLoadRect}
    {α : Type} {Q : α → sProp 𝕄} {k : Vec F S1x256x384 .bf16 → Prog (TpuEff nD τ sig (Elt F) Λ₀ .tc) α} :
    (reads (slotW b n h) c v : sProp 𝕄)
      ⊢ iprop((anyAt (slotW b n h) c -∗ wp frame (wpE (defs₀ (F := F)) 𝒱₀ (c : Thread nD τ) none) Set.univ (k (ldW v)) Q)
          -∗ wp frame (wpE (defs₀ (F := F)) 𝒱₀ (c : Thread nD τ) none) Set.univ
              (.op (.load b (Rect.unit (s := S3x256x384) ![n, 0, 0] S1x256x384.size h).toLoadRect hl) k) Q) := by
  unfold reads mpts
  iintro ⟨%f, %hf, H⟩ Hk
  have hS : (b.access (Rect.unit (s := S3x256x384) ![n, 0, 0] S1x256x384.size h)).set ⊆ (slotW b n h).view.set := by
    rw [show (slotW b n h).view.set = _ from View.set_reshape _ _]
  iapply (wp_load_rect 𝒱₀ (c : Thread nD τ) none Set.univ (m := b) (r := Rect.unit (s := S3x256x384) ![n, 0, 0] S1x256x384.size h) hS) $$ H
  iintro H
  have hv : (b.access (Rect.unit (s := S3x256x384) ![n, 0, 0] S1x256x384.size h)).read (Elt F) f = ldW v := by
    subst hf; funext i
    show _ = (b.access (Rect.unit (s := S3x256x384) ![n, 0, 0] S1x256x384.size h)).read (Elt F) f
      (Shape.reshapeEquiv squeezes_S1x256x384_S256x384.numel_eq ((Shape.reshapeEquiv squeezes_S1x256x384_S256x384.numel_eq).symm i))
    rw [Equiv.apply_symm_apply]
  rw [hv]
  iapply Hk
  unfold anyAt mpts
  iexists f; iexact H

theorem loadN_step (c : Dev nD) (b : Memref sig .tc .vmem S3x256x256 .bf16) (n : ℕ)
    (h : ∀ a, (![n, 0, 0] : Fin 3 → Nat) a + S1x256x256.size a ≤ S3x256x256.size a) (v : S256x256.Idx → Elt F .bf16)
    {hl : b.view.LoadsAt (Rect.unit (s := S3x256x256) ![n, 0, 0] S1x256x256.size h).toLoadRect}
    {α : Type} {Q : α → sProp 𝕄} {k : Vec F S1x256x256 .bf16 → Prog (TpuEff nD τ sig (Elt F) Λ₀ .tc) α} :
    (reads (slotN b n h) c v : sProp 𝕄)
      ⊢ iprop((anyAt (slotN b n h) c -∗ wp frame (wpE (defs₀ (F := F)) 𝒱₀ (c : Thread nD τ) none) Set.univ (k (ldN v)) Q)
          -∗ wp frame (wpE (defs₀ (F := F)) 𝒱₀ (c : Thread nD τ) none) Set.univ
              (.op (.load b (Rect.unit (s := S3x256x256) ![n, 0, 0] S1x256x256.size h).toLoadRect hl) k) Q) := by
  unfold reads mpts
  iintro ⟨%f, %hf, H⟩ Hk
  have hS : (b.access (Rect.unit (s := S3x256x256) ![n, 0, 0] S1x256x256.size h)).set ⊆ (slotN b n h).view.set := by
    rw [show (slotN b n h).view.set = _ from View.set_reshape _ _]
  iapply (wp_load_rect 𝒱₀ (c : Thread nD τ) none Set.univ (m := b) (r := Rect.unit (s := S3x256x256) ![n, 0, 0] S1x256x256.size h) hS) $$ H
  iintro H
  have hv : (b.access (Rect.unit (s := S3x256x256) ![n, 0, 0] S1x256x256.size h)).read (Elt F) f = ldN v := by
    subst hf; funext i
    show _ = (b.access (Rect.unit (s := S3x256x256) ![n, 0, 0] S1x256x256.size h)).read (Elt F) f
      (Shape.reshapeEquiv squeezes_S1x256x256_S256x256.numel_eq ((Shape.reshapeEquiv squeezes_S1x256x256_S256x256.numel_eq).symm i))
    rw [Equiv.apply_symm_apply]
  rw [hv]
  iapply Hk
  unfold anyAt mpts
  iexists f; iexact H

/-- A buffer read is a buffer held. -/
theorem reads_any (c : Dev nD) {s : Shape} {e : EltTy} (b : Memref sig .tc .vmem s e) (v : s.Idx → Elt F e) : (reads b c v : sProp 𝕄) ⊢ anyAt b c := by
  unfold reads anyAt
  iintro ⟨%f, -, H⟩; iexists f; iexact H

/-! ## A three-slot buffer in its slots, and whole again -/

/-- Two sets of one buffer with nothing in common, and the elements in neither, are the buffer in three parts. -/
theorem three_parts (ℓ : Loc nD τ sig) (A B C : Finset (Idx ℓ)) (hAB : Disjoint A B) (hAC : Disjoint A C) (hBC : Disjoint B C)
    (hU : A ∪ B ∪ C = Finset.univ) :
    ((iprop(∃ f : Buf (Elt F) ℓ, ℓ ↦{fullShare} f) : sProp 𝕄)
        ⊢ iprop((∃ f : Buf (Elt F) ℓ, ℓ ↦[A]{fullShare} f) ∗ (∃ f : Buf (Elt F) ℓ, ℓ ↦[B]{fullShare} f) ∗ ∃ f : Buf (Elt F) ℓ, ℓ ↦[C]{fullShare} f))
    ∧ (iprop((∃ f : Buf (Elt F) ℓ, ℓ ↦[A]{fullShare} f) ∗ (∃ f : Buf (Elt F) ℓ, ℓ ↦[B]{fullShare} f) ∗ ∃ f : Buf (Elt F) ℓ, ℓ ↦[C]{fullShare} f)
        ⊢ (iprop(∃ f : Buf (Elt F) ℓ, ℓ ↦{fullShare} f) : sProp 𝕄)) := by
  classical
  have hABC : Disjoint (A ∪ B) C := Finset.disjoint_union_left.mpr ⟨hAC, hBC⟩
  constructor
  · iintro ⟨%f, H⟩
    ihave H := (show ((ℓ ↦{fullShare} f : sProp 𝕄) ⊢ ℓ ↦[A ∪ B ∪ C]{fullShare} f) from by rw [hU]) $$ H
    ihave H := (pointsTo_union hABC).1 $$ H
    icases H with ⟨H, HC⟩
    ihave H := (pointsTo_union hAB).1 $$ H
    icases H with ⟨HA, HB⟩
    isplitl [HA]; · iexists f; iexact HA
    isplitl [HB]; · iexists f; iexact HB
    iexists f; iexact HC
  · iintro ⟨⟨%f, HA⟩, ⟨%g, HB⟩, ⟨%h, HC⟩⟩
    ihave H := (pointsTo_join hAB) $$ [HA HB]
    · isplitl [HA] <;> iassumption
    ihave H := (pointsTo_join hABC) $$ [H HC]
    · isplitl [H] <;> iassumption
    rw [hU]
    iexists _; iexact H

/-- The elements of round `n`'s slot of a 3 × 256 × 384 buffer, of a 3 × 256 × 256 buffer. -/
abbrev rowW (n : ℕ) (h : ∀ a, (![n, 0, 0] : Fin 3 → Nat) a + S1x256x384.size a ≤ S3x256x384.size a) : Finset S3x256x384.Idx :=
  (Rect.unit (s := S3x256x384) ![n, 0, 0] S1x256x384.size h).set
abbrev rowN (n : ℕ) (h : ∀ a, (![n, 0, 0] : Fin 3 → Nat) a + S1x256x256.size a ≤ S3x256x256.size a) : Finset S3x256x256.Idx :=
  (Rect.unit (s := S3x256x256) ![n, 0, 0] S1x256x256.size h).set

theorem mem_rowW (n : ℕ) (h) (i : S3x256x384.Idx) : i ∈ rowW n h ↔ (i 0).val = n := by
  rw [Rect.mem_set_unit]
  constructor
  · intro H; have : n ≤ (i 0).val ∧ (i 0).val < n + 1 := H 0; omega
  · intro H a
    have h1 : (i 1).val < 256 := (i 1).isLt
    have h2 : (i 2).val < 384 := (i 2).isLt
    fin_cases a
    · show n ≤ (i 0).val ∧ (i 0).val < n + 1; omega
    · show 0 ≤ (i 1).val ∧ (i 1).val < 0 + 256; omega
    · show 0 ≤ (i 2).val ∧ (i 2).val < 0 + 384; omega
theorem mem_rowN (n : ℕ) (h) (i : S3x256x256.Idx) : i ∈ rowN n h ↔ (i 0).val = n := by
  rw [Rect.mem_set_unit]
  constructor
  · intro H; have : n ≤ (i 0).val ∧ (i 0).val < n + 1 := H 0; omega
  · intro H a
    have h1 : (i 1).val < 256 := (i 1).isLt
    have h2 : (i 2).val < 256 := (i 2).isLt
    fin_cases a
    · show n ≤ (i 0).val ∧ (i 0).val < n + 1; omega
    · show 0 ≤ (i 1).val ∧ (i 1).val < 0 + 256; omega
    · show 0 ≤ (i 2).val ∧ (i 2).val < 0 + 256; omega

theorem disj_rowW (n k : ℕ) (h h') (hnk : n ≠ k) : Disjoint (rowW n h) (rowW k h') :=
  Finset.disjoint_left.mpr fun i hi hi' => hnk (((mem_rowW n h i).1 hi).symm.trans ((mem_rowW k h' i).1 hi'))
theorem disj_rowN (n k : ℕ) (h h') (hnk : n ≠ k) : Disjoint (rowN n h) (rowN k h') :=
  Finset.disjoint_left.mpr fun i hi hi' => hnk (((mem_rowN n h i).1 hi).symm.trans ((mem_rowN k h' i).1 hi'))
theorem cover_rowW (h0 h1 h2) : rowW 0 h0 ∪ rowW 1 h1 ∪ rowW 2 h2 = Finset.univ := by
  ext i
  have : (i 0).val < 3 := (i 0).isLt
  simp only [Finset.mem_union, mem_rowW, Finset.mem_univ, iff_true]; omega
theorem cover_rowN (h0 h1 h2) : rowN 0 h0 ∪ rowN 1 h1 ∪ rowN 2 h2 = Finset.univ := by
  ext i
  have : (i 0).val < 3 := (i 0).isLt
  simp only [Finset.mem_union, mem_rowN, Finset.mem_univ, iff_true]; omega

theorem set_slot0 (n : ℕ) (h) : (slotW rM0 n h).view.set = rowW n h := by
  rw [show (slotW rM0 n h).view.set = _ from View.set_reshape _ _]; exact View.set_slice_whole cc0_scratch3 _
theorem set_slot1 (n : ℕ) (h) : (slotW rM1 n h).view.set = rowW n h := by
  rw [show (slotW rM1 n h).view.set = _ from View.set_reshape _ _]; exact View.set_slice_whole cc0_scratch4 _
theorem set_slot2 (n : ℕ) (h) : (slotN rM2 n h).view.set = rowN n h := by
  rw [show (slotN rM2 n h).view.set = _ from View.set_reshape _ _]; exact View.set_slice_whole cc0_scratch5 _

/-- The whole of a scratch buffer of a device, at any contents. -/
def bufAny (b : Ref sig .tc) (c : Dev nD) : sProp 𝕄 := iprop(∃ f : Buf (Elt F) ((c : Thread nD τ).loc b), ((c : Thread nD τ).loc b) ↦{fullShare} f)

theorem slots0 (c : Dev nD) : ((bufAny cc0_scratch3 c : sProp 𝕄) ⊢ iprop(anyAt t00 c ∗ anyAt t10 c ∗ anyAt t20 c))
    ∧ (iprop(anyAt t00 c ∗ anyAt t10 c ∗ anyAt t20 c) ⊢ (bufAny cc0_scratch3 c : sProp 𝕄)) := by
  unfold anyAt mpts
  rw [set_slot0, set_slot0, set_slot0]
  exact three_parts ((c : Thread nD τ).loc cc0_scratch3) _ _ _ (disj_rowW _ _ _ _ (by decide)) (disj_rowW _ _ _ _ (by decide)) (disj_rowW _ _ _ _ (by decide))
    (cover_rowW _ _ _)
theorem slots1 (c : Dev nD) : ((bufAny cc0_scratch4 c : sProp 𝕄) ⊢ iprop(anyAt t01 c ∗ anyAt t11 c ∗ anyAt t21 c))
    ∧ (iprop(anyAt t01 c ∗ anyAt t11 c ∗ anyAt t21 c) ⊢ (bufAny cc0_scratch4 c : sProp 𝕄)) := by
  unfold anyAt mpts
  rw [set_slot1, set_slot1, set_slot1]
  exact three_parts ((c : Thread nD τ).loc cc0_scratch4) _ _ _ (disj_rowW _ _ _ _ (by decide)) (disj_rowW _ _ _ _ (by decide)) (disj_rowW _ _ _ _ (by decide))
    (cover_rowW _ _ _)
theorem slots2 (c : Dev nD) : ((bufAny cc0_scratch5 c : sProp 𝕄) ⊢ iprop(anyAt t02 c ∗ anyAt t12 c ∗ anyAt t22 c))
    ∧ (iprop(anyAt t02 c ∗ anyAt t12 c ∗ anyAt t22 c) ⊢ (bufAny cc0_scratch5 c : sProp 𝕄)) := by
  unfold anyAt mpts
  rw [set_slot2, set_slot2, set_slot2]
  exact three_parts ((c : Thread nD τ).loc cc0_scratch5) _ _ _ (disj_rowN _ _ _ _ (by decide)) (disj_rowN _ _ _ _ (by decide)) (disj_rowN _ _ _ _ (by decide))
    (cover_rowN _ _ _)

/-! ## A transfer from its tokens to its closed cells -/

/-- What a device holds for transfer `x` at the start: its positions on its two cells, the tokens of the two duties it
    pays, the credit of its landing. -/
def kit (x : Fin 9) (c : Dev nD) : sProp 𝕄 :=
  iprop(atPos ER (sendCell x c) 0 ∅ 0 ∗ atPos ER (recvCell x c) 0 ∅ 0 ∗ dutyTok ER (sendCell x c) 0 0
    ∗ dutyTok ER (recvCell x (peer (jx x) c)) 0 0 ∗ cred (tallyAt (recvCell x c) () (Nx x)))
/-- After it has sent. -/
def sent (x : Fin 9) (c : Dev nD) : sProp 𝕄 :=
  iprop(atPos ER (sendCell x c) 0 ∅ 0 ∗ atPos ER (recvCell x c) 0 ∅ 0 ∗ cred (tallyAt (recvCell x c) () (Nx x)) ∗ cred (tallyAt (sendCell x c) () (Nx x)))
/-- After its source is back. -/
def back (x : Fin 9) (c : Dev nD) : sProp 𝕄 :=
  iprop(semVal (sendCell x c) 0 ∗ atPos ER (recvCell x c) 0 ∅ 0 ∗ cred (tallyAt (recvCell x c) () (Nx x)))
/-- After its landing. -/
def done (x : Fin 9) (c : Dev nD) : sProp 𝕄 := iprop(semVal (sendCell x c) 0 ∗ semVal (recvCell x c) 0)

theorem send_kit (c n : Dev nD) (x : Fin 9) (hn : n = peer (jx x) c) {s : Shape} (src dst : Memref sig .tc .vmem s .bf16)
    {qS qR : DmaSem sig} (hqS : qS = sendS x) (hqR : qR = recvS x) (v : s.Idx → Elt F .bf16)
    (hs : sendPay m x c = reads src c v) (hr : recvPay m x (peer (jx x) c) = reads dst (peer (jx x) c) v)
    (hl : (landAny x (peer (jx x) c) : sProp 𝕄) = anyAt dst (peer (jx x) c)) (hN : dst.view.dmaCredit = Nx x)
    {hsc : (dst : Memref sig (Dev.tc n : Thread nD τ).2.kind .vmem s .bf16).view.ref.isScScratch = false}
    {hsrc : src.view.WordExact} {hdst : dst.view.WordExact}
    {hsem : DmaTarget.Typed .vmem (.dma qR) (.remote (Dev.tc n : Thread nD τ) dst (.dma qS) hsc)}
    {α : Type} {Q : α → sProp 𝕄} {k : PUnit → Prog (TpuEff nD τ sig (Elt F) Λ₀ .tc) α} :
    iprop(env m K ∗ kit x c ∗ reads src c v ∗ landAny x (peer (jx x) c) ∗ owesAny c (OwS c x.val))
      ⊢ iprop(((sent x c ∗ owesAny c (OwS c (x.val + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) k) Q) := by
  rw [hl]
  unfold kit sent
  iintro ⟨#He, ⟨Ha1, Ha2, Ht1, Ht2, Hc⟩, Hs, Hd, HO⟩ Hk
  iapply (send_step m K c n x hn src dst hqS hqR v hs hr hN) $$ [Hs Hd Ht1 Ht2 HO]
  · isplitr; · iexact He
    isplitl [Hs]; · iexact Hs
    isplitl [Hd]; · iexact Hd
    isplitl [Ht1]; · iexact Ht1
    isplitl [Ht2]; · iexact Ht2
    iexact HO
  iintro ⟨Hc2, HO⟩
  iapply Hk
  isplitr [HO]
  · isplitl [Ha1]; · iexact Ha1
    isplitl [Ha2]; · iexact Ha2
    isplitl [Hc]; · iexact Hc
    iexact Hc2
  iexact HO

theorem waitSend_kit (c : Dev nD) (x : Fin 9) (n : ℕ) {q : DmaSem sig} (hq : q = sendS x) {sp sp' : Space} {s s' : Shape} {e e' : EltTy}
    {src : Memref sig .tc sp' s' e'} {dst : Memref sig .tc sp s e} (hN : dst.view.dmaCredit = Nx x)
    {hsrc : src.view.WordExact} {hdst : dst.view.WordExact} {α : Type} {Q : α → sProp 𝕄} {k : PUnit → Prog (TpuEff nD τ sig (Elt F) Λ₀ .tc) α} :
    iprop(env m K ∗ sent x c ∗ owesAny c (OwS c n))
      ⊢ iprop(((sendPay m x c ∗ back x c ∗ owesAny c (OwS c n))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold sent back
  iintro ⟨#He, ⟨Ha1, Ha2, Hc, Hc2⟩, HO⟩ Hk
  iapply (waitSend_step m K c x n hq hN) $$ [Ha1 Hc2 HO]
  · isplitr; · iexact He
    isplitl [Hc2]; · iexact Hc2
    isplitl [Ha1]; · iexact Ha1
    iexact HO
  iintro ⟨Hp, Hz, HO⟩
  iapply Hk
  isplitl [Hp]; · iexact Hp
  isplitr [HO]
  · isplitl [Hz]; · iexact Hz
    isplitl [Ha2]; · iexact Ha2
    iexact Hc
  iexact HO

theorem waitRecv_kit (c : Dev nD) (x : Fin 9) (n : ℕ) (hn : x.val < n) {q : DmaSem sig} (hq : q = recvS x) {sp sp' : Space} {s s' : Shape} {e e' : EltTy}
    {src : Memref sig .tc sp' s' e'} {dst : Memref sig .tc sp s e} (hN : dst.view.dmaCredit = Nx x)
    {hsrc : src.view.WordExact} {hdst : dst.view.WordExact} {α : Type} {Q : α → sProp 𝕄} {k : PUnit → Prog (TpuEff nD τ sig (Elt F) Λ₀ .tc) α} :
    iprop(env m K ∗ back x c ∗ owesAny c (OwS c n))
      ⊢ iprop(((recvPay m x c ∗ done x c ∗ owesAny c (OwS c n))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold back done
  iintro ⟨#He, ⟨Hz, Ha, Hc⟩, HO⟩ Hk
  iapply (waitRecv_step m K c x n hn hq hN) $$ [Ha Hc HO]
  · isplitr; · iexact He
    isplitl [Hc]; · iexact Hc
    isplitl [Ha]; · iexact Ha
    iexact HO
  iintro ⟨Hp, Hz2, HO⟩
  iapply Hk
  isplitl [Hp]; · iexact Hp
  isplitr [HO]
  · isplitl [Hz]; · iexact Hz
    iexact Hz2
  iexact HO

/-! ## The result buffer -/

/-- A load whose value is not used and a store of a window of the result buffer. -/
theorem out_step (c : Dev nD) (r : Rect S256x1024) (w : r.shape.Idx → Elt F .f32) (f : (cc0_stg5_0 : Ref sig .tc).ty.Contents (Elt F))
    (Lp : List (View.Piece (Elt F) S256x1024 .f32))
    {hl : (oM : Memref sig .tc .vmem S256x1024 .f32).view.LoadsAt r.toLoadRect} {hx : (oM.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    (mpts oM c (oM.view.writes (Elt F) f Lp) : sProp 𝕄)
      ⊢ iprop((mpts oM c (oM.view.writes (Elt F) f (⟨r, w⟩ :: Lp)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM r.toLoadRect hl) fun _ => .op (.store oM r w Finset.univ hx hm) k) Q) := by
  unfold mpts
  iintro H Hk
  iapply (wp_load 𝒱₀ (c : Thread nD τ) none Set.univ (m := oM) (View.setOn_subset_set _ _)) $$ H; iintro H
  iapply (wp_store 𝒱₀ (c : Thread nD τ) none Set.univ (m := oM) (r := r) (Mk := Finset.univ) (View.set_slice_subset _ _)) $$ H
  iintro H
  iapply Hk
  iexact H

/-- The result on device `c`: its three column chunks side by side. -/
def outv (c : Dev nD) : S256x1024.Idx → Elt F .f32 :=
  VecWindow.put (VecWindow.put (VecWindow.put (fun _ => FloatOps.ofBits .f32 0) ![0, 0] S256x384.size (out0 m c)) ![0, 384] S256x384.size (out1 m c))
    ![0, 768] S256x256.size (out2 m c)

/-- A window put over two functions gives the same at an index inside it, or where the two agree. -/
theorem put_or {s : Shape} {α : Type} (x x' : s.Idx → α) (off size : Fin s.rank → ℕ) (w : ((a : Fin s.rank) → Fin (size a)) → α) (y : s.Idx)
    (h : (∀ a, off a ≤ (y a).val ∧ (y a).val < off a + size a) ∨ x y = x' y) : VecWindow.put x off size w y = VecWindow.put x' off size w y := by
  unfold VecWindow.put
  by_cases hi : ∀ a, off a ≤ (y a).val ∧ (y a).val < off a + size a
  · rw [dif_pos hi, dif_pos hi]
  · rw [dif_neg hi, dif_neg hi]; exact h.resolve_left hi

/-- Over any contents the three stores leave that. -/
theorem outv_any (g : S256x1024.Idx → Elt F .f32) (a b : S256x384.Idx → Elt F .f32) (d : S256x256.Idx → Elt F .f32)
    (g' : S256x1024.Idx → Elt F .f32) :
    VecWindow.put (VecWindow.put (VecWindow.put g ![0, 0] S256x384.size a) ![0, 384] S256x384.size b) ![0, 768] S256x256.size d
      = VecWindow.put (VecWindow.put (VecWindow.put g' ![0, 0] S256x384.size a) ![0, 384] S256x384.size b) ![0, 768] S256x256.size d := by
  funext y
  have h0 : (y 0).val < 256 := (y 0).isLt
  have h1 : (y 1).val < 1024 := (y 1).isLt
  refine put_or _ _ _ _ _ y ?_
  by_cases hd : ∀ a, (![0, 768] : Fin 2 → ℕ) a ≤ (y a).val ∧ (y a).val < (![0, 768] : Fin 2 → ℕ) a + S256x256.size a
  · exact .inl hd
  refine .inr (put_or _ _ _ _ _ y ?_)
  by_cases hb : ∀ a, (![0, 384] : Fin 2 → ℕ) a ≤ (y a).val ∧ (y a).val < (![0, 384] : Fin 2 → ℕ) a + S256x384.size a
  · exact .inl hb
  refine .inr (put_or _ _ _ _ _ y (.inl ?_))
  by_contra ha
  have e0 : ∀ n k : ℕ, (∀ a, (![0, n] : Fin 2 → ℕ) a ≤ (y a).val ∧ (y a).val < (![0, n] : Fin 2 → ℕ) a + (![256, k] : Fin 2 → ℕ) a) ↔ n ≤ (y 1).val ∧ (y 1).val < n + k := by
    intro n k
    rw [Fin.forall_fin_two]
    show ((0 ≤ (y 0).val ∧ (y 0).val < 0 + 256) ∧ (n ≤ (y 1).val ∧ (y 1).val < n + k)) ↔ _
    constructor
    · exact fun h => h.2
    · exact fun h => ⟨⟨Nat.zero_le _, by omega⟩, h⟩
  have := mt (e0 768 256).2 hd
  have := mt (e0 384 384).2 hb
  have := mt (e0 0 384).2 ha
  omega

end Cert.Exchange

end
-- ==== Proof.Body.lean ====
/-
# 01_k — the run of the kernel body on one device
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 19 → ℕ)

/-- The kernel's payloads, named. -/
theorem fold_qv (c : Dev nD) : k0_pay2 (xs m c) (wqs m c) = qv m c := rfl
theorem fold_kv (c : Dev nD) : k0_pay3 (xs m c) (wks m c) = kv m c := rfl
theorem fold_vv (c : Dev nD) : k0_pay4 (xs m c) (wvs m c) = vv m c := rfl
theorem fold_vb (c : Dev nD) : k0_pay5 (vv m c) = vb m c := rfl
theorem fold_h0 (c : Dev nD) : k0_pay6 (qv m c) (kv m c) (vv m c) = h0 m c := rfl
theorem fold_h1 (c : Dev nD) : k0_pay7 (qv m c) (kv m c) (vv m c) = h1 m c := rfl
theorem fold_h2 (c : Dev nD) : k0_pay8 (qv m c) (kv m c) (vv m c) = h2 m c := rfl
theorem fold_h3 (c : Dev nD) : k0_pay12 (k0_pay9 (vv m c)) (k0_pay10 (qv m c) (kv m c)) (k0_pay11 (qv m c) (kv m c)) = h3 m c := rfl
theorem fold_h4 (c : Dev nD) : k0_pay13 (qv m c) (kv m c) (vb m c) = h4 m c := rfl
theorem fold_h5 (c : Dev nD) : k0_pay14 (qv m c) (kv m c) (vb m c) = h5 m c := rfl
theorem fold_h6 (c : Dev nD) : k0_pay15 (qv m c) (kv m c) (vb m c) = h6 m c := rfl
theorem fold_att (c : Dev nD) : k0_pay16 (qv m c) (kv m c) (vb m c) (h0 m c) (h1 m c) (h2 m c) (h3 m c) (h4 m c) (h5 m c) (h6 m c) = att m c := rfl
theorem fold_wot (c : Dev nD) : k0_pay17 (wos m c) = wot m c := rfl
theorem fold_k00 (c : Dev nD) : k0_pay18 (qv m c) (kv m c) (vb m c) (h0 m c) (h1 m c) (h2 m c) (h3 m c) (h4 m c) (h5 m c) (h6 m c) (wos m c) = k00 m c := rfl
theorem fold_s00 (c : Dev nD) : k0_pay19 (qv m c) (kv m c) (vb m c) (h0 m c) (h1 m c) (h2 m c) (h3 m c) (h4 m c) (h5 m c) (h6 m c) (wos m c) = s00 m c := rfl
theorem fold_k01 (c : Dev nD) : k0_pay20 (qv m c) (kv m c) (vb m c) (h0 m c) (h1 m c) (h2 m c) (h3 m c) (h4 m c) (h5 m c) (h6 m c) (wos m c) = k01 m c := rfl
theorem fold_s01 (c : Dev nD) : k0_pay21 (k01 m c) = s01 m c := rfl
theorem fold_k02 (c : Dev nD) : k0_pay22 (att m c) (wot m c) = k02 m c := rfl
theorem fold_s02 (c : Dev nD) : k0_pay23 (att m c) (wot m c) = s02 m c := rfl
theorem fold_k10 (c : Dev nD) : k0_pay24 (k00 m c) (ldW (s00 m (peer (jx 0) c))) = k10 m c := rfl
theorem fold_s10 (c : Dev nD) : k0_pay25 (k00 m c) (ldW (s00 m (peer (jx 0) c))) = s10 m c := rfl
theorem fold_k11 (c : Dev nD) : k0_pay26 (k01 m c) (ldW (s01 m (peer (jx 1) c))) = k11 m c := rfl
theorem fold_s11 (c : Dev nD) : k0_pay27 (k01 m c) (ldW (s01 m (peer (jx 1) c))) = s11 m c := rfl
theorem fold_k12 (c : Dev nD) : k0_pay28 (k02 m c) (ldN (s02 m (peer (jx 2) c))) = k12 m c := rfl
theorem fold_s12 (c : Dev nD) : k0_pay29 (k02 m c) (ldN (s02 m (peer (jx 2) c))) = s12 m c := rfl
theorem fold_k20 (c : Dev nD) : k0_pay30 (k10 m c) (ldW (s10 m (peer (jx 3) c))) = k20 m c := rfl
theorem fold_s20 (c : Dev nD) : k0_pay31 (k10 m c) (ldW (s10 m (peer (jx 3) c))) = s20 m c := rfl
theorem fold_k21 (c : Dev nD) : k0_pay32 (k11 m c) (ldW (s11 m (peer (jx 4) c))) = k21 m c := rfl
theorem fold_s21 (c : Dev nD) : k0_pay33 (k11 m c) (ldW (s11 m (peer (jx 4) c))) = s21 m c := rfl
theorem fold_k22 (c : Dev nD) : k0_pay34 (k12 m c) (ldN (s12 m (peer (jx 5) c))) = k22 m c := rfl
theorem fold_s22 (c : Dev nD) : k0_pay35 (k12 m c) (ldN (s12 m (peer (jx 5) c))) = s22 m c := rfl
theorem fold_out0 (c : Dev nD) : k0_pay37 (k0_pay36 (k20 m c) (ldW (s20 m (peer (jx 6) c)))) = out0 m c := rfl
theorem fold_out1 (c : Dev nD) : k0_pay38 (k21 m c) (ldW (s21 m (peer (jx 7) c))) = out1 m c := rfl
theorem fold_out2 (c : Dev nD) : k0_pay39 (k22 m c) (ldN (s22 m (peer (jx 8) c))) = out2 m c := rfl

/-- The semaphore of each transfer's source and landing, as the kernel spells it. -/
theorem semS0 : ((SemArray.slice cc0_scratch6 (Rect.unit (s := S3x3) ![0, 0] S1x1.size inb_S3x3_S1x1_0_0)).squeeze S_ squeezes_S1x1_S_).sem = sendS 0 := by decide
theorem semR0 : ((SemArray.slice cc0_scratch7 (Rect.unit (s := S3x3) ![0, 0] S1x1.size inb_S3x3_S1x1_0_0)).squeeze S_ squeezes_S1x1_S_).sem = recvS 0 := by decide
theorem semS1 : ((SemArray.slice cc0_scratch6 (Rect.unit (s := S3x3) ![0, 1] S1x1.size inb_S3x3_S1x1_0_1)).squeeze S_ squeezes_S1x1_S_).sem = sendS 1 := by decide
theorem semR1 : ((SemArray.slice cc0_scratch7 (Rect.unit (s := S3x3) ![0, 1] S1x1.size inb_S3x3_S1x1_0_1)).squeeze S_ squeezes_S1x1_S_).sem = recvS 1 := by decide
theorem semS2 : ((SemArray.slice cc0_scratch6 (Rect.unit (s := S3x3) ![0, 2] S1x1.size inb_S3x3_S1x1_0_2)).squeeze S_ squeezes_S1x1_S_).sem = sendS 2 := by decide
theorem semR2 : ((SemArray.slice cc0_scratch7 (Rect.unit (s := S3x3) ![0, 2] S1x1.size inb_S3x3_S1x1_0_2)).squeeze S_ squeezes_S1x1_S_).sem = recvS 2 := by decide
theorem semS3 : ((SemArray.slice cc0_scratch6 (Rect.unit (s := S3x3) ![1, 0] S1x1.size inb_S3x3_S1x1_1_0)).squeeze S_ squeezes_S1x1_S_).sem = sendS 3 := by decide
theorem semR3 : ((SemArray.slice cc0_scratch7 (Rect.unit (s := S3x3) ![1, 0] S1x1.size inb_S3x3_S1x1_1_0)).squeeze S_ squeezes_S1x1_S_).sem = recvS 3 := by decide
theorem semS4 : ((SemArray.slice cc0_scratch6 (Rect.unit (s := S3x3) ![1, 1] S1x1.size inb_S3x3_S1x1_1_1)).squeeze S_ squeezes_S1x1_S_).sem = sendS 4 := by decide
theorem semR4 : ((SemArray.slice cc0_scratch7 (Rect.unit (s := S3x3) ![1, 1] S1x1.size inb_S3x3_S1x1_1_1)).squeeze S_ squeezes_S1x1_S_).sem = recvS 4 := by decide
theorem semS5 : ((SemArray.slice cc0_scratch6 (Rect.unit (s := S3x3) ![1, 2] S1x1.size inb_S3x3_S1x1_1_2)).squeeze S_ squeezes_S1x1_S_).sem = sendS 5 := by decide
theorem semR5 : ((SemArray.slice cc0_scratch7 (Rect.unit (s := S3x3) ![1, 2] S1x1.size inb_S3x3_S1x1_1_2)).squeeze S_ squeezes_S1x1_S_).sem = recvS 5 := by decide
theorem semS6 : ((SemArray.slice cc0_scratch6 (Rect.unit (s := S3x3) ![2, 0] S1x1.size inb_S3x3_S1x1_2_0)).squeeze S_ squeezes_S1x1_S_).sem = sendS 6 := by decide
theorem semR6 : ((SemArray.slice cc0_scratch7 (Rect.unit (s := S3x3) ![2, 0] S1x1.size inb_S3x3_S1x1_2_0)).squeeze S_ squeezes_S1x1_S_).sem = recvS 6 := by decide
theorem semS7 : ((SemArray.slice cc0_scratch6 (Rect.unit (s := S3x3) ![2, 1] S1x1.size inb_S3x3_S1x1_2_1)).squeeze S_ squeezes_S1x1_S_).sem = sendS 7 := by decide
theorem semR7 : ((SemArray.slice cc0_scratch7 (Rect.unit (s := S3x3) ![2, 1] S1x1.size inb_S3x3_S1x1_2_1)).squeeze S_ squeezes_S1x1_S_).sem = recvS 7 := by decide
theorem semS8 : ((SemArray.slice cc0_scratch6 (Rect.unit (s := S3x3) ![2, 2] S1x1.size inb_S3x3_S1x1_2_2)).squeeze S_ squeezes_S1x1_S_).sem = sendS 8 := by decide
theorem semR8 : ((SemArray.slice cc0_scratch7 (Rect.unit (s := S3x3) ![2, 2] S1x1.size inb_S3x3_S1x1_2_2)).squeeze S_ squeezes_S1x1_S_).sem = recvS 8 := by decide

/-- The credit of a transfer, read off its landing slot and off its send buffer. -/
theorem crR0 : (t00 : Memref sig .tc .vmem _ .bf16).view.dmaCredit = Nx 0 := rfl
theorem crS0 : (sM0 : Memref sig .tc .vmem _ .bf16).view.dmaCredit = Nx 0 := rfl
theorem crR1 : (t01 : Memref sig .tc .vmem _ .bf16).view.dmaCredit = Nx 1 := rfl
theorem crS1 : (sM1 : Memref sig .tc .vmem _ .bf16).view.dmaCredit = Nx 1 := rfl
theorem crR2 : (t02 : Memref sig .tc .vmem _ .bf16).view.dmaCredit = Nx 2 := rfl
theorem crS2 : (sM2 : Memref sig .tc .vmem _ .bf16).view.dmaCredit = Nx 2 := rfl
theorem crR3 : (t10 : Memref sig .tc .vmem _ .bf16).view.dmaCredit = Nx 3 := rfl
theorem crS3 : (sM0 : Memref sig .tc .vmem _ .bf16).view.dmaCredit = Nx 3 := rfl
theorem crR4 : (t11 : Memref sig .tc .vmem _ .bf16).view.dmaCredit = Nx 4 := rfl
theorem crS4 : (sM1 : Memref sig .tc .vmem _ .bf16).view.dmaCredit = Nx 4 := rfl
theorem crR5 : (t12 : Memref sig .tc .vmem _ .bf16).view.dmaCredit = Nx 5 := rfl
theorem crS5 : (sM2 : Memref sig .tc .vmem _ .bf16).view.dmaCredit = Nx 5 := rfl
theorem crR6 : (t20 : Memref sig .tc .vmem _ .bf16).view.dmaCredit = Nx 6 := rfl
theorem crS6 : (sM0 : Memref sig .tc .vmem _ .bf16).view.dmaCredit = Nx 6 := rfl
theorem crR7 : (t21 : Memref sig .tc .vmem _ .bf16).view.dmaCredit = Nx 7 := rfl
theorem crS7 : (sM1 : Memref sig .tc .vmem _ .bf16).view.dmaCredit = Nx 7 := rfl
theorem crR8 : (t22 : Memref sig .tc .vmem _ .bf16).view.dmaCredit = Nx 8 := rfl
theorem crS8 : (sM2 : Memref sig .tc .vmem _ .bf16).view.dmaCredit = Nx 8 := rfl

/-- What comes with each wait, by name. -/
theorem pay_s0 (c : Dev nD) : sendPay m 0 c = reads sM0 c (s00 m c) := rfl
theorem pay_r0 (c : Dev nD) : recvPay m 0 c = reads t00 c (s00 m (peer (jx 0) c)) := rfl
theorem pay_p0 (c : Dev nD) : recvPay m 0 (peer (jx 0) c) = reads t00 (peer (jx 0) c) (s00 m c) := by rw [pay_r0, peer_peer]
theorem land0 (c : Dev nD) : (landAny 0 c : sProp 𝕄) = anyAt t00 c := rfl
theorem pay_s1 (c : Dev nD) : sendPay m 1 c = reads sM1 c (s01 m c) := rfl
theorem pay_r1 (c : Dev nD) : recvPay m 1 c = reads t01 c (s01 m (peer (jx 1) c)) := rfl
theorem pay_p1 (c : Dev nD) : recvPay m 1 (peer (jx 1) c) = reads t01 (peer (jx 1) c) (s01 m c) := by rw [pay_r1, peer_peer]
theorem land1 (c : Dev nD) : (landAny 1 c : sProp 𝕄) = anyAt t01 c := rfl
theorem pay_s2 (c : Dev nD) : sendPay m 2 c = reads sM2 c (s02 m c) := rfl
theorem pay_r2 (c : Dev nD) : recvPay m 2 c = reads t02 c (s02 m (peer (jx 2) c)) := rfl
theorem pay_p2 (c : Dev nD) : recvPay m 2 (peer (jx 2) c) = reads t02 (peer (jx 2) c) (s02 m c) := by rw [pay_r2, peer_peer]
theorem land2 (c : Dev nD) : (landAny 2 c : sProp 𝕄) = anyAt t02 c := rfl
theorem pay_s3 (c : Dev nD) : sendPay m 3 c = reads sM0 c (s10 m c) := rfl
theorem pay_r3 (c : Dev nD) : recvPay m 3 c = reads t10 c (s10 m (peer (jx 3) c)) := rfl
theorem pay_p3 (c : Dev nD) : recvPay m 3 (peer (jx 3) c) = reads t10 (peer (jx 3) c) (s10 m c) := by rw [pay_r3, peer_peer]
theorem land3 (c : Dev nD) : (landAny 3 c : sProp 𝕄) = anyAt t10 c := rfl
theorem pay_s4 (c : Dev nD) : sendPay m 4 c = reads sM1 c (s11 m c) := rfl
theorem pay_r4 (c : Dev nD) : recvPay m 4 c = reads t11 c (s11 m (peer (jx 4) c)) := rfl
theorem pay_p4 (c : Dev nD) : recvPay m 4 (peer (jx 4) c) = reads t11 (peer (jx 4) c) (s11 m c) := by rw [pay_r4, peer_peer]
theorem land4 (c : Dev nD) : (landAny 4 c : sProp 𝕄) = anyAt t11 c := rfl
theorem pay_s5 (c : Dev nD) : sendPay m 5 c = reads sM2 c (s12 m c) := rfl
theorem pay_r5 (c : Dev nD) : recvPay m 5 c = reads t12 c (s12 m (peer (jx 5) c)) := rfl
theorem pay_p5 (c : Dev nD) : recvPay m 5 (peer (jx 5) c) = reads t12 (peer (jx 5) c) (s12 m c) := by rw [pay_r5, peer_peer]
theorem land5 (c : Dev nD) : (landAny 5 c : sProp 𝕄) = anyAt t12 c := rfl
theorem pay_s6 (c : Dev nD) : sendPay m 6 c = reads sM0 c (s20 m c) := rfl
theorem pay_r6 (c : Dev nD) : recvPay m 6 c = reads t20 c (s20 m (peer (jx 6) c)) := rfl
theorem pay_p6 (c : Dev nD) : recvPay m 6 (peer (jx 6) c) = reads t20 (peer (jx 6) c) (s20 m c) := by rw [pay_r6, peer_peer]
theorem land6 (c : Dev nD) : (landAny 6 c : sProp 𝕄) = anyAt t20 c := rfl
theorem pay_s7 (c : Dev nD) : sendPay m 7 c = reads sM1 c (s21 m c) := rfl
theorem pay_r7 (c : Dev nD) : recvPay m 7 c = reads t21 c (s21 m (peer (jx 7) c)) := rfl
theorem pay_p7 (c : Dev nD) : recvPay m 7 (peer (jx 7) c) = reads t21 (peer (jx 7) c) (s21 m c) := by rw [pay_r7, peer_peer]
theorem land7 (c : Dev nD) : (landAny 7 c : sProp 𝕄) = anyAt t21 c := rfl
theorem pay_s8 (c : Dev nD) : sendPay m 8 c = reads sM2 c (s22 m c) := rfl
theorem pay_r8 (c : Dev nD) : recvPay m 8 c = reads t22 c (s22 m (peer (jx 8) c)) := rfl
theorem pay_p8 (c : Dev nD) : recvPay m 8 (peer (jx 8) c) = reads t22 (peer (jx 8) c) (s22 m c) := by rw [pay_r8, peer_peer]
theorem land8 (c : Dev nD) : (landAny 8 c : sProp 𝕄) = anyAt t22 c := rfl

/-- A load of a whole buffer. -/
theorem load_step (c : Dev nD) {s : Shape} {e : EltTy} (b : Memref sig .tc .vmem s e) {off : Fin s.rank → ℕ}
    (inb : ∀ a, off a + s.size a ≤ s.size a) (v : s.Idx → Elt F e)
    {hl : b.view.LoadsAt (Rect.unit off s.size inb).toLoadRect}
    {α : Type} {Q : α → sProp 𝕄} {k : (s.Idx → Elt F e) → Prog (TpuEff nD τ sig (Elt F) Λ₀ .tc) α} :
    (reads b c v : sProp 𝕄)
      ⊢ iprop((reads b c v -∗ wp frame (wpE (defs₀ (F := F)) 𝒱₀ (c : Thread nD τ) none) Set.univ (k v) Q)
          -∗ wp frame (wpE (defs₀ (F := F)) 𝒱₀ (c : Thread nD τ) none) Set.univ
              (.op (.load b (Rect.unit off s.size inb).toLoadRect hl) k) Q) := by
  unfold reads mpts
  iintro ⟨%f, %hf, H⟩ Hk
  iapply (wp_load 𝒱₀ (c : Thread nD τ) none Set.univ (m := b) (View.setOn_subset_set _ _)) $$ H; iintro H
  rw [show b.view.readAt (Elt F) (Rect.unit off s.size inb).toLoadRect f = v from (View.readAt_full b.view f inb).trans hf]
  iapply Hk
  iexists f
  isplitr; · ipureintro; exact hf
  iexact H

/-- What device `c` starts with beside the environment: its barrier cell, the tokens of its three signals, its nine transfers. -/
def linear (c : Dev nD) : sProp 𝕄 :=
  iprop(atPos ER (barCell c) 0 ∅ 0 ∗ cred (tallyAt (barCell c) () 3)
    ∗ dutyTok ER (barCell (peer 0 c)) 0 0 ∗ dutyTok ER (barCell (peer 1 c)) 0 1 ∗ dutyTok ER (barCell (peer 2 c)) 0 2
    ∗ kit 0 c ∗ kit 1 c ∗ kit 2 c ∗ kit 3 c ∗ kit 4 c ∗ kit 5 c ∗ kit 6 c ∗ kit 7 c ∗ kit 8 c)

/-- Its own cells at zero. -/
def closed (c : Dev nD) : sProp 𝕄 :=
  iprop(semVal (barCell c) 0 ∗ done 0 c ∗ done 1 c ∗ done 2 c ∗ done 3 c ∗ done 4 c ∗ done 5 c ∗ done 6 c ∗ done 7 c ∗ done 8 c)

/-- Its six scratch buffers, at any contents. -/
def scr (c : Dev nD) : sProp 𝕄 :=
  iprop(bufAny cc0_scratch0 c ∗ bufAny cc0_scratch1 c ∗ bufAny cc0_scratch2 c ∗ bufAny cc0_scratch3 c ∗ bufAny cc0_scratch4 c ∗ bufAny cc0_scratch5 c)

/-- Its five staged arguments. -/
def argsAt (c : Dev nD) : sProp 𝕄 :=
  iprop(reads xM c (xs m c) ∗ reads wqM c (wqs m c) ∗ reads woM c (wos m c) ∗ reads wkM c (wks m c) ∗ reads wvM c (wvs m c))

def bodyIn (c : Dev nD) : sProp 𝕄 := iprop(env m K ∗ linear c ∗ scr c ∗ owesAny c (O₀ c) ∗ argsAt m c ∗ anyAt oM c)
def bodyOut (c : Dev nD) : sProp 𝕄 := iprop(closed c ∗ scr c ∗ owesAny c 0 ∗ argsAt m c ∗ reads oM c (outv m c))

/-- The landing slots handed over with a signal, seen by the device that sends into them and by the one that gives them. -/
theorem barPay0 (c : Dev nD) : (barPay 0 c : sProp 𝕄) = iprop(landAny 0 (peer (jx 0) c) ∗ landAny 5 (peer (jx 5) c) ∗ landAny 7 (peer (jx 7) c)) := rfl
theorem barPay1 (c : Dev nD) : (barPay 1 c : sProp 𝕄) = iprop(landAny 1 (peer (jx 1) c) ∗ landAny 3 (peer (jx 3) c) ∗ landAny 8 (peer (jx 8) c)) := rfl
theorem barPay2 (c : Dev nD) : (barPay 2 c : sProp 𝕄) = iprop(landAny 2 (peer (jx 2) c) ∗ landAny 4 (peer (jx 4) c) ∗ landAny 6 (peer (jx 6) c)) := rfl
theorem give0 (c : Dev nD) : (barPay 0 (peer 0 c) : sProp 𝕄) = iprop(anyAt t00 c ∗ anyAt t12 c ∗ anyAt t21 c) := by unfold barPay; rw [peer_peer]; rfl
theorem give1 (c : Dev nD) : (barPay 1 (peer 1 c) : sProp 𝕄) = iprop(anyAt t01 c ∗ anyAt t10 c ∗ anyAt t22 c) := by unfold barPay; rw [peer_peer]; rfl
theorem give2 (c : Dev nD) : (barPay 2 (peer 2 c) : sProp 𝕄) = iprop(anyAt t02 c ∗ anyAt t11 c ∗ anyAt t20 c) := by unfold barPay; rw [peer_peer]; rfl

theorem any_whole (b : Ref sig .tc) (c : Dev nD) :
    (bufAny b c : sProp 𝕄) = iprop(∃ f : Buf (Elt F) ((c : Thread nD τ).loc b), ((c : Thread nD τ).loc b) ↦[(View.whole b).set]{fullShare} f) := by
  unfold bufAny; rw [View.set_whole]
theorem any0 (c : Dev nD) : (bufAny cc0_scratch0 c : sProp 𝕄) = anyAt sM0 c := any_whole cc0_scratch0 c
theorem any1 (c : Dev nD) : (bufAny cc0_scratch1 c : sProp 𝕄) = anyAt sM1 c := any_whole cc0_scratch1 c
theorem any2 (c : Dev nD) : (bufAny cc0_scratch2 c : sProp 𝕄) = anyAt sM2 c := any_whole cc0_scratch2 c

set_option maxHeartbeats 800000 in
/-- The body of the kernel on device `c`, one operation after another. -/
theorem sound_body (c : Dev nD) (Kt : PUnit → sProp 𝕄) :
    iprop(bodyIn m K c ∗ (bodyOut m c -∗ Kt ⟨⟩))
      ⊢ wp frame (wpE (defs₀ (F := F)) 𝒱₀ (c : Thread nD τ) none) Set.univ
          (cc0_body xM (Memref.isWhole_whole _) wqM (Memref.isWhole_whole _) woM (Memref.isWhole_whole _) wkM (Memref.isWhole_whole _)
            wvM (Memref.isWhole_whole _) oM (Memref.isWhole_whole _) sM0 (Memref.isWhole_whole _) sM1 (Memref.isWhole_whole _)
            sM2 (Memref.isWhole_whole _) rM0 (Memref.isWhole_whole _) rM1 (Memref.isWhole_whole _) rM2 (Memref.isWhole_whole _)
            cc0_scratch6 cc0_scratch7) Kt := by
  unfold bodyIn linear scr argsAt
  iintro ⟨⟨#He, ⟨Hab, Hcb, Hd0, Hd1, Hd2, Hk0, Hk1, Hk2, Hk3, Hk4, Hk5, Hk6, Hk7, Hk8⟩, ⟨Hs0, Hs1, Hs2, Hr0, Hr1, Hr2⟩, HO, ⟨Hx, Hwq, Hwo, Hwk, Hwv⟩, Hout⟩, Hk⟩
  ihave Hs0 := (Entails.of_eq (any0 (F := F) c)) $$ Hs0
  ihave Hs1 := (Entails.of_eq (any1 (F := F) c)) $$ Hs1
  ihave Hs2 := (Entails.of_eq (any2 (F := F) c)) $$ Hs2
  ihave Hr0 := (slots0 (F := F) c).1 $$ Hr0
  icases Hr0 with ⟨Hl0, Hl3, Hl6⟩
  ihave Hr1 := (slots1 (F := F) c).1 $$ Hr1
  icases Hr1 with ⟨Hl1, Hl4, Hl7⟩
  ihave Hr2 := (slots2 (F := F) c).1 $$ Hr2
  icases Hr2 with ⟨Hl2, Hl5, Hl8⟩
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  unfold O₀
  iapply (signal_step m K c _ 0 (dev1_eq c) _) $$ [HO Hd0 Hl0 Hl5 Hl7]
  · isplitr; · iexact He
    isplitl [Hd0]; · iexact Hd0
    isplitr [HO]
    · rw [give0]
      isplitl [Hl0]; · iexact Hl0
      isplitl [Hl5]; · iexact Hl5
      iexact Hl7
    iexact HO
  iintro HO
  iapply (signal_step m K c _ 1 (dev2_eq c) _) $$ [HO Hd1 Hl1 Hl3 Hl8]
  · isplitr; · iexact He
    isplitl [Hd1]; · iexact Hd1
    isplitr [HO]
    · rw [give1]
      isplitl [Hl1]; · iexact Hl1
      isplitl [Hl3]; · iexact Hl3
      iexact Hl8
    iexact HO
  iintro HO
  iapply (signal_step m K c _ 2 (dev3_eq c) _) $$ [HO Hd2 Hl2 Hl4 Hl6]
  · isplitr; · iexact He
    isplitl [Hd2]; · iexact Hd2
    isplitr [HO]
    · rw [give2]
      isplitl [Hl2]; · iexact Hl2
      isplitl [Hl4]; · iexact Hl4
      iexact Hl6
    iexact HO
  iintro HO
  iapply (load_step c xM _ _) $$ Hx; iintro Hx
  iapply (load_step c wqM _ _) $$ Hwq; iintro Hwq
  iapply (load_step c wkM _ _) $$ Hwk; iintro Hwk
  iapply (load_step c wvM _ _) $$ Hwv; iintro Hwv
  simp only [k0_part2_eq_skeleton]; unfold k0_part2_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  simp only [k0_part3_eq_skeleton]; unfold k0_part3_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  simp only [k0_part4_eq_skeleton]; unfold k0_part4_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (load_step c woM _ _) $$ Hwo; iintro Hwo
  iapply (barrier_step m K c 0) $$ [Hcb Hab HO]
  · isplitr; · iexact He
    isplitl [Hcb]; · iexact Hcb
    isplitl [Hab]; · iexact Hab
    iexact HO
  rw [barPay0, barPay1, barPay2]
  iintro ⟨⟨Hl0, Hl5, Hl7⟩, ⟨Hl1, Hl3, Hl8⟩, ⟨Hl2, Hl4, Hl6⟩, Hzb, HO⟩
  iapply (store_step c sM0 _ (s00 m c)) $$ Hs0; iintro Hs0
  iapply (send_kit m K c _ 0 (dev4_eq c) sM0 t00 semS0 semR0 (s00 m c) (pay_s0 m c) (pay_p0 m c) (land0 _) crR0) $$ [Hk0 Hs0 Hl0 HO]
  · isplitr; · iexact He
    isplitl [Hk0]; · iexact Hk0
    isplitl [Hs0]; · iexact Hs0
    isplitl [Hl0]; · iexact Hl0
    iexact HO
  iintro ⟨Hk0, HO⟩
  simp only [k0_part5_eq_skeleton]; unfold k0_part5_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (store_step c sM1 _ (s01 m c)) $$ Hs1; iintro Hs1
  iapply (send_kit m K c _ 1 (dev5_eq c) sM1 t01 semS1 semR1 (s01 m c) (pay_s1 m c) (pay_p1 m c) (land1 _) crR1) $$ [Hk1 Hs1 Hl1 HO]
  · isplitr; · iexact He
    isplitl [Hk1]; · iexact Hk1
    isplitl [Hs1]; · iexact Hs1
    isplitl [Hl1]; · iexact Hl1
    iexact HO
  iintro ⟨Hk1, HO⟩
  iapply (store_step c sM2 _ (s02 m c)) $$ Hs2; iintro Hs2
  iapply (send_kit m K c _ 2 (dev6_eq c) sM2 t02 semS2 semR2 (s02 m c) (pay_s2 m c) (pay_p2 m c) (land2 _) crR2) $$ [Hk2 Hs2 Hl2 HO]
  · isplitr; · iexact He
    isplitl [Hk2]; · iexact Hk2
    isplitl [Hs2]; · iexact Hs2
    isplitl [Hl2]; · iexact Hl2
    iexact HO
  iintro ⟨Hk2, HO⟩
  simp only [k0_part6_eq_skeleton]; unfold k0_part6_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (waitSend_kit m K c 0 3 semS0 crS0) $$ [Hk0 HO]
  · isplitr; · iexact He
    isplitl [Hk0]; · iexact Hk0
    iexact HO
  iintro ⟨Hs0, Hk0, HO⟩
  ihave Hs0 := (Entails.of_eq (pay_s0 m c)) $$ Hs0
  ihave Hs0 := (reads_any c sM0 (s00 m c)) $$ Hs0
  iapply (waitRecv_kit m K c 0 3 (by decide) semR0 crR0) $$ [Hk0 HO]
  · isplitr; · iexact He
    isplitl [Hk0]; · iexact Hk0
    iexact HO
  iintro ⟨Hl0, Hk0, HO⟩
  ihave Hl0 := (Entails.of_eq (pay_r0 m c)) $$ Hl0
  iapply (loadW_step c rM0 0 _ (s00 m (peer (jx 0) c))) $$ Hl0; iintro Hl0
  iapply (store_step c sM0 _ (s10 m c)) $$ Hs0; iintro Hs0
  iapply (send_kit m K c _ 3 (dev7_eq c) sM0 t10 semS3 semR3 (s10 m c) (pay_s3 m c) (pay_p3 m c) (land3 _) crR3) $$ [Hk3 Hs0 Hl3 HO]
  · isplitr; · iexact He
    isplitl [Hk3]; · iexact Hk3
    isplitl [Hs0]; · iexact Hs0
    isplitl [Hl3]; · iexact Hl3
    iexact HO
  iintro ⟨Hk3, HO⟩
  simp only [k0_part7_eq_skeleton]; unfold k0_part7_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (waitSend_kit m K c 1 4 semS1 crS1) $$ [Hk1 HO]
  · isplitr; · iexact He
    isplitl [Hk1]; · iexact Hk1
    iexact HO
  iintro ⟨Hs1, Hk1, HO⟩
  ihave Hs1 := (Entails.of_eq (pay_s1 m c)) $$ Hs1
  ihave Hs1 := (reads_any c sM1 (s01 m c)) $$ Hs1
  iapply (waitRecv_kit m K c 1 4 (by decide) semR1 crR1) $$ [Hk1 HO]
  · isplitr; · iexact He
    isplitl [Hk1]; · iexact Hk1
    iexact HO
  iintro ⟨Hl1, Hk1, HO⟩
  ihave Hl1 := (Entails.of_eq (pay_r1 m c)) $$ Hl1
  iapply (loadW_step c rM1 0 _ (s01 m (peer (jx 1) c))) $$ Hl1; iintro Hl1
  iapply (store_step c sM1 _ (s11 m c)) $$ Hs1; iintro Hs1
  iapply (send_kit m K c _ 4 (dev8_eq c) sM1 t11 semS4 semR4 (s11 m c) (pay_s4 m c) (pay_p4 m c) (land4 _) crR4) $$ [Hk4 Hs1 Hl4 HO]
  · isplitr; · iexact He
    isplitl [Hk4]; · iexact Hk4
    isplitl [Hs1]; · iexact Hs1
    isplitl [Hl4]; · iexact Hl4
    iexact HO
  iintro ⟨Hk4, HO⟩
  simp only [k0_part8_eq_skeleton]; unfold k0_part8_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (waitSend_kit m K c 2 5 semS2 crS2) $$ [Hk2 HO]
  · isplitr; · iexact He
    isplitl [Hk2]; · iexact Hk2
    iexact HO
  iintro ⟨Hs2, Hk2, HO⟩
  ihave Hs2 := (Entails.of_eq (pay_s2 m c)) $$ Hs2
  ihave Hs2 := (reads_any c sM2 (s02 m c)) $$ Hs2
  iapply (waitRecv_kit m K c 2 5 (by decide) semR2 crR2) $$ [Hk2 HO]
  · isplitr; · iexact He
    isplitl [Hk2]; · iexact Hk2
    iexact HO
  iintro ⟨Hl2, Hk2, HO⟩
  ihave Hl2 := (Entails.of_eq (pay_r2 m c)) $$ Hl2
  iapply (loadN_step c rM2 0 _ (s02 m (peer (jx 2) c))) $$ Hl2; iintro Hl2
  iapply (store_step c sM2 _ (s12 m c)) $$ Hs2; iintro Hs2
  iapply (send_kit m K c _ 5 (dev9_eq c) sM2 t12 semS5 semR5 (s12 m c) (pay_s5 m c) (pay_p5 m c) (land5 _) crR5) $$ [Hk5 Hs2 Hl5 HO]
  · isplitr; · iexact He
    isplitl [Hk5]; · iexact Hk5
    isplitl [Hs2]; · iexact Hs2
    isplitl [Hl5]; · iexact Hl5
    iexact HO
  iintro ⟨Hk5, HO⟩
  simp only [k0_part9_eq_skeleton]; unfold k0_part9_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (waitSend_kit m K c 3 6 semS3 crS3) $$ [Hk3 HO]
  · isplitr; · iexact He
    isplitl [Hk3]; · iexact Hk3
    iexact HO
  iintro ⟨Hs0, Hk3, HO⟩
  ihave Hs0 := (Entails.of_eq (pay_s3 m c)) $$ Hs0
  ihave Hs0 := (reads_any c sM0 (s10 m c)) $$ Hs0
  iapply (waitRecv_kit m K c 3 6 (by decide) semR3 crR3) $$ [Hk3 HO]
  · isplitr; · iexact He
    isplitl [Hk3]; · iexact Hk3
    iexact HO
  iintro ⟨Hl3, Hk3, HO⟩
  ihave Hl3 := (Entails.of_eq (pay_r3 m c)) $$ Hl3
  iapply (loadW_step c rM0 1 _ (s10 m (peer (jx 3) c))) $$ Hl3; iintro Hl3
  iapply (store_step c sM0 _ (s20 m c)) $$ Hs0; iintro Hs0
  iapply (send_kit m K c _ 6 (dev10_eq c) sM0 t20 semS6 semR6 (s20 m c) (pay_s6 m c) (pay_p6 m c) (land6 _) crR6) $$ [Hk6 Hs0 Hl6 HO]
  · isplitr; · iexact He
    isplitl [Hk6]; · iexact Hk6
    isplitl [Hs0]; · iexact Hs0
    isplitl [Hl6]; · iexact Hl6
    iexact HO
  iintro ⟨Hk6, HO⟩
  simp only [k0_part10_eq_skeleton]; unfold k0_part10_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (waitSend_kit m K c 4 7 semS4 crS4) $$ [Hk4 HO]
  · isplitr; · iexact He
    isplitl [Hk4]; · iexact Hk4
    iexact HO
  iintro ⟨Hs1, Hk4, HO⟩
  ihave Hs1 := (Entails.of_eq (pay_s4 m c)) $$ Hs1
  ihave Hs1 := (reads_any c sM1 (s11 m c)) $$ Hs1
  iapply (waitRecv_kit m K c 4 7 (by decide) semR4 crR4) $$ [Hk4 HO]
  · isplitr; · iexact He
    isplitl [Hk4]; · iexact Hk4
    iexact HO
  iintro ⟨Hl4, Hk4, HO⟩
  ihave Hl4 := (Entails.of_eq (pay_r4 m c)) $$ Hl4
  iapply (loadW_step c rM1 1 _ (s11 m (peer (jx 4) c))) $$ Hl4; iintro Hl4
  iapply (store_step c sM1 _ (s21 m c)) $$ Hs1; iintro Hs1
  simp only [k0_part11_eq_skeleton]; unfold k0_part11_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (send_kit m K c _ 7 (dev11_eq c) sM1 t21 semS7 semR7 (s21 m c) (pay_s7 m c) (pay_p7 m c) (land7 _) crR7) $$ [Hk7 Hs1 Hl7 HO]
  · isplitr; · iexact He
    isplitl [Hk7]; · iexact Hk7
    isplitl [Hs1]; · iexact Hs1
    isplitl [Hl7]; · iexact Hl7
    iexact HO
  iintro ⟨Hk7, HO⟩
  iapply (waitSend_kit m K c 5 8 semS5 crS5) $$ [Hk5 HO]
  · isplitr; · iexact He
    isplitl [Hk5]; · iexact Hk5
    iexact HO
  iintro ⟨Hs2, Hk5, HO⟩
  ihave Hs2 := (Entails.of_eq (pay_s5 m c)) $$ Hs2
  ihave Hs2 := (reads_any c sM2 (s12 m c)) $$ Hs2
  iapply (waitRecv_kit m K c 5 8 (by decide) semR5 crR5) $$ [Hk5 HO]
  · isplitr; · iexact He
    isplitl [Hk5]; · iexact Hk5
    iexact HO
  iintro ⟨Hl5, Hk5, HO⟩
  ihave Hl5 := (Entails.of_eq (pay_r5 m c)) $$ Hl5
  iapply (loadN_step c rM2 1 _ (s12 m (peer (jx 5) c))) $$ Hl5; iintro Hl5
  iapply (store_step c sM2 _ (s22 m c)) $$ Hs2; iintro Hs2
  simp only [k0_part12_eq_skeleton]; unfold k0_part12_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (send_kit m K c _ 8 (dev12_eq c) sM2 t22 semS8 semR8 (s22 m c) (pay_s8 m c) (pay_p8 m c) (land8 _) crR8) $$ [Hk8 Hs2 Hl8 HO]
  · isplitr; · iexact He
    isplitl [Hk8]; · iexact Hk8
    isplitl [Hs2]; · iexact Hs2
    isplitl [Hl8]; · iexact Hl8
    iexact HO
  iintro ⟨Hk8, HO⟩
  iapply (waitSend_kit m K c 6 9 semS6 crS6) $$ [Hk6 HO]
  · isplitr; · iexact He
    isplitl [Hk6]; · iexact Hk6
    iexact HO
  iintro ⟨Hs0, Hk6, HO⟩
  ihave Hs0 := (Entails.of_eq (pay_s6 m c)) $$ Hs0
  ihave Hs0 := (reads_any c sM0 (s20 m c)) $$ Hs0
  iapply (waitRecv_kit m K c 6 9 (by decide) semR6 crR6) $$ [Hk6 HO]
  · isplitr; · iexact He
    isplitl [Hk6]; · iexact Hk6
    iexact HO
  iintro ⟨Hl6, Hk6, HO⟩
  ihave Hl6 := (Entails.of_eq (pay_r6 m c)) $$ Hl6
  iapply (loadW_step c rM0 2 _ (s20 m (peer (jx 6) c))) $$ Hl6; iintro Hl6
  iapply (waitSend_kit m K c 7 9 semS7 crS7) $$ [Hk7 HO]
  · isplitr; · iexact He
    isplitl [Hk7]; · iexact Hk7
    iexact HO
  iintro ⟨Hs1, Hk7, HO⟩
  ihave Hs1 := (Entails.of_eq (pay_s7 m c)) $$ Hs1
  ihave Hs1 := (reads_any c sM1 (s21 m c)) $$ Hs1
  simp only [k0_part13_eq_skeleton]; unfold k0_part13_skel
  simp only [semSignalWord, semWaitWord, Prog.lift, Prog.bind_op, Prog.bind_ret, Prog.pure_eq_ret, wp_deviceId,
    fold_qv, fold_kv, fold_vv, fold_vb, fold_h0, fold_h1, fold_h2, fold_h3, fold_h4, fold_h5, fold_h6, fold_att, fold_wot, fold_k00, fold_s00, fold_k01, fold_s01, fold_k02, fold_s02, fold_k10, fold_s10, fold_k11, fold_s11, fold_k12,
    fold_s12, fold_k20, fold_s20, fold_k21, fold_s21, fold_k22, fold_s22, fold_out0, fold_out1, fold_out2]
  iapply (waitRecv_kit m K c 7 9 (by decide) semR7 crR7) $$ [Hk7 HO]
  · isplitr; · iexact He
    isplitl [Hk7]; · iexact Hk7
    iexact HO
  iintro ⟨Hl7, Hk7, HO⟩
  ihave Hl7 := (Entails.of_eq (pay_r7 m c)) $$ Hl7
  iapply (loadW_step c rM1 2 _ (s21 m (peer (jx 7) c))) $$ Hl7; iintro Hl7
  iapply (waitSend_kit m K c 8 9 semS8 crS8) $$ [Hk8 HO]
  · isplitr; · iexact He
    isplitl [Hk8]; · iexact Hk8
    iexact HO
  iintro ⟨Hs2, Hk8, HO⟩
  ihave Hs2 := (Entails.of_eq (pay_s8 m c)) $$ Hs2
  ihave Hs2 := (reads_any c sM2 (s22 m c)) $$ Hs2
  iapply (waitRecv_kit m K c 8 9 (by decide) semR8 crR8) $$ [Hk8 HO]
  · isplitr; · iexact He
    isplitl [Hk8]; · iexact Hk8
    iexact HO
  iintro ⟨Hl8, Hk8, HO⟩
  ihave Hl8 := (Entails.of_eq (pay_r8 m c)) $$ Hl8
  iapply (loadN_step c rM2 2 _ (s22 m (peer (jx 8) c))) $$ Hl8; iintro Hl8
  ihave Hout := (show (anyAt oM c : sProp 𝕄) ⊢ iprop(∃ f, mpts oM c f) from Entails.of_eq rfl) $$ Hout
  icases Hout with ⟨%f, Hout⟩
  ihave Hout := (show (mpts oM c f : sProp 𝕄) ⊢ mpts oM c (oM.view.writes (Elt F) f []) from Entails.of_eq rfl) $$ Hout
  iapply (out_step c _ _ f []) $$ Hout; iintro Hout
  iapply (out_step c _ _ f _) $$ Hout; iintro Hout
  iapply (out_step c _ _ f _) $$ Hout; iintro Hout
  rw [wp_ret]; imodintro
  iapply Hk
  unfold bodyOut closed scr argsAt
  rw [any0, any1, any2]
  isplitl [Hzb Hk0 Hk1 Hk2 Hk3 Hk4 Hk5 Hk6 Hk7 Hk8]
  · isplitl [Hzb]; · iexact Hzb
    isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    isplitl [Hk7]; · iexact Hk7
    iexact Hk8
  isplitl [Hs0 Hs1 Hs2 Hl0 Hl1 Hl2 Hl3 Hl4 Hl5 Hl6 Hl7 Hl8]
  · isplitl [Hs0]; · iexact Hs0
    isplitl [Hs1]; · iexact Hs1
    isplitl [Hs2]; · iexact Hs2
    isplitl [Hl0 Hl3 Hl6]
    · iapply (slots0 (F := F) c).2
      isplitl [Hl0]; · iexact Hl0
      isplitl [Hl3]; · iexact Hl3
      iexact Hl6
    isplitl [Hl1 Hl4 Hl7]
    · iapply (slots1 (F := F) c).2
      isplitl [Hl1]; · iexact Hl1
      isplitl [Hl4]; · iexact Hl4
      iexact Hl7
    iapply (slots2 (F := F) c).2
    isplitl [Hl2]; · iexact Hl2
    isplitl [Hl5]; · iexact Hl5
    iexact Hl8
  isplitl [HO]; · rw [← OwS_nine c]; iexact HO
  isplitl [Hx Hwq Hwo Hwk Hwv]
  · isplitl [Hx]; · iexact Hx
    isplitl [Hwq]; · iexact Hwq
    isplitl [Hwo]; · iexact Hwo
    isplitl [Hwk]; · iexact Hwk
    iexact Hwv
  unfold reads
  iexists _
  isplitr [Hout]
  rotate_left
  · iexact Hout
  ipureintro
  rw [View.read_writes_cons_put _ _ _ _ _ rfl, View.read_writes_cons_put _ _ _ _ _ rfl, View.read_writes_cons_put _ _ _ _ _ rfl]
  exact outv_any _ _ _ _ _

end Cert.Exchange

end
-- ==== Proof.Launch.lean ====
/-
# 01_k — the launch of the kernel on all devices
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The windows before and after the point -/

/-- What device `c`'s body starts from: the environment at some names with its ghost state, and the level facts. -/
def start (c : Dev nD) : sProp 𝕄 := iprop(∃ K, env m K ∗ linear c)

/-- Before the point and after it. -/
def Φ₀ (c : Dev nD) : sProp 𝕄 := iprop(start m c ∗ scr c)
def Φ₁ (c : Dev nD) : sProp 𝕄 := iprop(closed c ∗ scr c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => wqs m c
    | ⟨2, _⟩ => wos m c
    | ⟨3, _⟩ => wks m c
    | ⟨4, _⟩ => wvs m c
    | ⟨5, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_0 (c : Dev nD) (d) : (dats (F := F) m 0 c).before (0 : Fin 6) t0_0 d = xs m c := by
  unfold Dat.before; rw [if_pos (fetch0_0 t0_0)]; rfl
theorem before_1 (c : Dev nD) (d) : (dats (F := F) m 0 c).before (1 : Fin 6) t0_0 d = wqs m c := by
  unfold Dat.before; rw [if_pos (fetch0_1 t0_0)]; rfl
theorem before_2 (c : Dev nD) (d) : (dats (F := F) m 0 c).before (2 : Fin 6) t0_0 d = wos m c := by
  unfold Dat.before; rw [if_pos (fetch0_2 t0_0)]; rfl
theorem before_3 (c : Dev nD) (d) : (dats (F := F) m 0 c).before (3 : Fin 6) t0_0 d = wks m c := by
  unfold Dat.before; rw [if_pos (fetch0_3 t0_0)]; rfl
theorem before_4 (c : Dev nD) (d) : (dats (F := F) m 0 c).before (4 : Fin 6) t0_0 d = wvs m c := by
  unfold Dat.before; rw [if_pos (fetch0_4 t0_0)]; rfl

/-- Owning a buffer read through a memref is `reads`. -/
theorem owns_reads {s : Shape} {e : EltTy} (b : Memref sig .tc .vmem s e) (c : Dev nD) (X : s.Idx → Elt F e) :
    (owns (Ix := Unit) (Name := ℕ) (U := UU) (Lvl := ℕ) (c : Thread nD τ) b fullShare X : sProp 𝕄) = reads b c X := rfl

def bodyPre (c : Dev nD) : sProp 𝕄 :=
  iprop(Φ₀ m c ∗ (dats m 0 c).owesAt () t0_0.castSucc
    ∗ (∃ d, reads xM c ((dats m 0 c).before (0 : Fin 6) t0_0 d))
    ∗ (∃ d, reads wqM c ((dats m 0 c).before (1 : Fin 6) t0_0 d))
    ∗ (∃ d, reads woM c ((dats m 0 c).before (2 : Fin 6) t0_0 d))
    ∗ (∃ d, reads wkM c ((dats m 0 c).before (3 : Fin 6) t0_0 d))
    ∗ (∃ d, reads wvM c ((dats m 0 c).before (4 : Fin 6) t0_0 d))
    ∗ (∃ d, reads oM c ((dats m 0 c).before (5 : Fin 6) t0_0 d)))

def bodyPost (c : Dev nD) : sProp 𝕄 :=
  iprop(Φ₁ c ∗ (dats m 0 c).owesAt () t0_0.succ
    ∗ reads xM c (xs m c) ∗ reads wqM c (wqs m c) ∗ reads woM c (wos m c) ∗ reads wkM c (wks m c) ∗ reads wvM c (wvs m c) ∗ reads oM c (outv m c))

theorem pre_in (c : Dev nD) : bodyPre m c ⊢ iprop(∃ K, bodyIn m K c) := by
  unfold bodyPre Φ₀ start bodyIn argsAt owesAny
  simp only [before_0, before_1, before_2, before_3, before_4]
  unfold Dat.owesAt Pipeline.owesWithin
  iintro ⟨⟨⟨%K, He, Hl⟩, Hs⟩, ⟨%W, %hW, HO⟩, ⟨%d0, Hx⟩, ⟨%d1, Hwq⟩, ⟨%d2, Hwo⟩, ⟨%d3, Hwk⟩, ⟨%d4, Hwv⟩, ⟨%d5, Ho⟩⟩
  iexists K
  isplitl [He]; · iexact He
  isplitl [Hl]; · iexact Hl
  isplitl [Hs]; · iexact Hs
  isplitl [HO]
  · iexists W; iexact HO
  isplitr [Ho]
  · isplitl [Hx]; · iexact Hx
    isplitl [Hwq]; · iexact Hwq
    isplitl [Hwo]; · iexact Hwo
    isplitl [Hwk]; · iexact Hwk
    iexact Hwv
  iapply (reads_any c oM _); iexact Ho

theorem out_post (c : Dev nD) : bodyOut m c ⊢ bodyPost m c := by
  unfold bodyPost Φ₁ bodyOut argsAt owesAny
  unfold Dat.owesAt Pipeline.owesWithin
  iintro ⟨Hc, Hs, ⟨%W, HO⟩, ⟨Hx, Hwq, Hwo, Hwk, Hwv⟩, Ho⟩
  isplitl [Hc Hs]
  · isplitl [Hc]; · iexact Hc
    iexact Hs
  isplitl [HO]
  · iexists W
    isplitr; · ipureintro; exact fun _ _ => Or.inl trivial
    iexact HO
  isplitl [Hx]; · iexact Hx
  isplitl [Hwq]; · iexact Hwq
  isplitl [Hwo]; · iexact Hwo
  isplitl [Hwk]; · iexact Hwk
  isplitl [Hwv]; · iexact Hwv
  iexact Ho

set_option maxRecDepth 4000 in
/-- The body of the one pipeline point, on device `c`. -/
theorem body_obligation (c : Dev nD) : BodyObligation (dats (F := F) m 0 c) (defs₀ (F := F)) 𝒱₀ () Set.univ := fun t => by
  rw [fin_N0 t]
  rw [bigSep_W0, bigSep_W0]
  show bodyPre m c ⊢ wp frame (wpE (defs₀ (F := F)) 𝒱₀ c none) Set.univ
    (cc0_body xM (Memref.isWhole_whole _) wqM (Memref.isWhole_whole _) woM (Memref.isWhole_whole _) wkM (Memref.isWhole_whole _)
      wvM (Memref.isWhole_whole _) oM (Memref.isWhole_whole _) sM0 (Memref.isWhole_whole _) sM1 (Memref.isWhole_whole _)
      sM2 (Memref.isWhole_whole _) rM0 (Memref.isWhole_whole _) rM1 (Memref.isWhole_whole _) rM2 (Memref.isWhole_whole _)
      cc0_scratch6 cc0_scratch7) (fun _ => bodyPost m c)
  iintro H
  ihave H := (pre_in m c) $$ H
  icases H with ⟨%K, H⟩
  iapply (sound_body m K c fun _ => bodyPost m c)
  isplitl [H]; · iexact H
  iintro H
  iapply (out_post m c); iexact H

/-! ## The launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 19 → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The duties of one device's cells: its barrier's three, its sources' nine, its landings' nine. -/
abbrev Duty : Type := Fin 3 ⊕ (Fin 9 ⊕ Fin 9)

/-- The semaphore and the duty's name. -/
def dutyAt : Duty → SemLoc sig × Fin 3
  | .inl j => (.reg barS, j)
  | .inr (.inl x) => (.dma (sendS x), 0)
  | .inr (.inr x) => (.dma (recvS x), 0)
theorem dutyAt_injective : Function.Injective dutyAt := by decide

def tokOf (cj : Dev nD × Duty) : GSem nD τ sig × ℕ × Fin 3 := (((cj.1 : Thread nD τ), (dutyAt cj.2).1), 0, (dutyAt cj.2).2)
theorem tokOf_injective : Function.Injective tokOf := by
  rintro ⟨c, j⟩ ⟨c', j'⟩ h
  have h1 : c = c' := congrArg (fun x : GSem nD τ sig × ℕ × Fin 3 => x.1.1.1) h
  have h2 : j = j' := dutyAt_injective (congrArg (fun x : GSem nD τ sig × ℕ × Fin 3 => (x.1.2, x.2.2)) h)
  rw [h1, h2]

def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of device `c`'s own cells, -/
def toks (c : Dev nD) : sProp 𝕄 :=
  iprop((bigSep Finset.univ fun j : Fin 3 => dutyTok ER (barCell c) 0 j) ∗ (bigSep Finset.univ fun x : Fin 9 => dutyTok ER (sendCell x c) 0 0)
    ∗ bigSep Finset.univ fun x : Fin 9 => dutyTok ER (recvCell x c) 0 0)
/-- and those of the duties it pays. -/
def payToks (c : Dev nD) : sProp 𝕄 :=
  iprop((bigSep Finset.univ fun j : Fin 3 => dutyTok ER (barCell (peer j c)) 0 j) ∗ (bigSep Finset.univ fun x : Fin 9 => dutyTok ER (sendCell x c) 0 0)
    ∗ bigSep Finset.univ fun x : Fin 9 => dutyTok ER (recvCell x (peer (jx x) c)) 0 0)

/-- Its positions on its nineteen cells. -/
def places (c : Dev nD) : sProp 𝕄 := bigSep Finset.univ fun k : Fin 19 => atPos ER (kcell (c, k)) 0 ∅ 0

/-- What the launch deals device `c`, -/
def G (c : Dev nD) : sProp 𝕄 :=
  iprop((bigSep Finset.univ fun k : Fin 19 => roundState ER (xRd m) (kcell (c, k)) 0)
    ∗ (places c ∗ bigSep Finset.univ fun k : Fin 19 => reached ER (kcell (c, k)) 0) ∗ toks c)
/-- and what the step over all devices makes of it. -/
def G' (c : Dev nD) : sProp 𝕄 := iprop(∃ K, records m K ∗ places c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 19 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [BI.bigSep_univ_sum, BI.bigSep_univ_sum]; rfl
  iintro HX
  imod (Rounds.fund ER (xRd m) allCells allToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat']; · iexact Hat'
    iexact Hr'
  iexact Htok'

/-- The eighteen DMA semaphores are the kernel's own, one by one; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (sendCell 3 c) 0 ∗ semVal (sendCell 4 c) 0
      ∗ semVal (sendCell 5 c) 0 ∗ semVal (sendCell 6 c) 0 ∗ semVal (sendCell 7 c) 0 ∗ semVal (sendCell 8 c) 0
      ∗ semVal (recvCell 0 c) 0 ∗ semVal (recvCell 1 c) 0 ∗ semVal (recvCell 2 c) 0 ∗ semVal (recvCell 3 c) 0 ∗ semVal (recvCell 4 c) 0
      ∗ semVal (recvCell 5 c) 0 ∗ semVal (recvCell 6 c) 0 ∗ semVal (recvCell 7 c) 0 ∗ semVal (recvCell 8 c) 0) := by
  rw [Pipeline.ownSems0_eq_of_list c osem [0, 1, 2, 3, 4, 5, 6, 7, 8, 9, 10, 11, 12, 13, 14, 15, 16, 17] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem fin19 (Φ : Fin 19 → sProp 𝕄) : bigSep Finset.univ Φ
    = iprop(Φ 0 ∗ Φ (kS 0) ∗ Φ (kS 1) ∗ Φ (kS 2) ∗ Φ (kS 3) ∗ Φ (kS 4) ∗ Φ (kS 5) ∗ Φ (kS 6) ∗ Φ (kS 7) ∗ Φ (kS 8)
      ∗ Φ (kR 0) ∗ Φ (kR 1) ∗ Φ (kR 2) ∗ Φ (kR 3) ∗ Φ (kR 4) ∗ Φ (kR 5) ∗ Φ (kR 6) ∗ Φ (kR 7) ∗ Φ (kR 8)) :=
  bigSep_univ_eq_bigSepL [0, kS 0, kS 1, kS 2, kS 3, kS 4, kS 5, kS 6, kS 7, kS 8, kR 0, kR 1, kR 2, kR 3, kR 4, kR 5, kR 6, kR 7, kR 8] (by decide) (by decide) Φ
theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem fin3 (Φ : Fin 3 → sProp 𝕄) : bigSep Finset.univ Φ = iprop(Φ 0 ∗ Φ 1 ∗ Φ 2) :=
  bigSep_univ_eq_bigSepL [0, 1, 2] (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, fin19]
  simp only [kcell_send, kcell_recv, kcell_bar]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (places c ∗ bigSep Finset.univ fun k : Fin 19 => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family of one thing per device and index, dealt to the partner of its index. -/
theorem deal {I : Type} [Fintype I] [DecidableEq I] (p : I → Fin 3) (Φ : I → Dev nD → sProp 𝕄) :
    (bigSep Finset.univ fun c : Dev nD => bigSep Finset.univ fun i : I => Φ i c)
      = bigSep Finset.univ fun c : Dev nD => bigSep Finset.univ fun i : I => Φ i (peer (p i) c) := by
  rw [BI.bigSep_univ_comm, BI.bigSep_univ_comm (fun (c : Dev nD) (i : I) => Φ i (peer (p i) c))]
  exact bigSep_congr fun i _ => bigSep_univ_equiv (peerEquiv (p i)) (Φ i)

/-- The tokens dealt to those who pay. -/
theorem toks_around : (bigSep Finset.univ fun c : Dev nD => (toks c : sProp 𝕄)) = bigSep Finset.univ fun c : Dev nD => payToks c := by
  unfold toks payToks
  rw [bigSep_sep', bigSep_sep', bigSep_sep', bigSep_sep', deal id fun (j : Fin 3) c => (dutyTok ER (barCell c) 0 j : sProp 𝕄),
    deal jx fun x c => (dutyTok ER (recvCell x c) 0 0 : sProp 𝕄)]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (places c ∗ bigSep Finset.univ fun k : Fin 19 => reached ER (kcell (c, k)) 0) ∗ toks c) : sProp 𝕄)
      ⊢ bigSep Finset.univ (G' m) := by
  rw [bigSep_sep', bigSep_sep', bigSep_sep', ← bigSep_univ_prod (fun ck : Dev nD × Fin 19 => iprop(∃ κ : ℕ, cellInv ER (xRd m) κ (kcell ck))),
    ← bigSep_univ_prod (fun ck : Dev nD × Fin 19 => (reached ER (kcell ck) 0 : sProp 𝕄)), toks_around]
  iintro ⟨HI, ⟨Hat, #HR⟩, Htok⟩
  ihave HK := (BI.bigSep_exists_pi Finset.univ (fun (ck : Dev nD × Fin 19) (κ : ℕ) => (cellInv ER (xRd m) κ (kcell ck) : sProp 𝕄))) $$ HI
  icases HK with ⟨%K, #HI⟩
  iapply (with_persistent (R := records m K) (Φ := fun c : Dev nD => iprop(places c ∗ payToks c)) fun c _ => show _ ⊢ G' m c from by
    unfold G'; iintro ⟨H1, H2⟩; iexists K
    isplitl [H1]; · iexact H1
    iexact H2)
  isplitr
  · unfold records; isplitl; · iexact HI
    iexact HR
  · iapply (Entails.of_eq (bigSep_sep' Finset.univ (fun c : Dev nD => (places c : sProp 𝕄)) payToks).symm)
    isplitl [Hat]; · iexact Hat
    iexact Htok

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : barCell a = barCell b ↔ a = b :=
  ⟨fun h => congrArg (fun g : GSem nD τ sig => g.1.1) h, fun h => h ▸ rfl⟩
theorem recvS_injective : Function.Injective recvS := by decide
theorem recv_eq_iff {x y : Fin 9} {a b : Dev nD} : recvCell x a = recvCell y b ↔ x = y ∧ a = b :=
  ⟨fun h => ⟨recvS_injective (SemLoc.dma.inj (congrArg Prod.snd h)), congrArg (fun g : GSem nD τ sig => g.1.1) h⟩, fun h => by rw [h.1, h.2]⟩
theorem eq_peer_iff {j : Fin 3} {c d : Dev nD} : c = peer j d ↔ d = peer j c :=
  ⟨fun h => by rw [h, peer_peer], fun h => by rw [h, peer_peer]⟩

theorem OwS_bar (d c : Dev nD) (n : ℕ) : OwS d n (barCell c) () = 0 := by
  by_contra h
  obtain ⟨y, -, hy⟩ := OwS_pos (Nat.pos_of_ne_zero h)
  cases congrArg Prod.snd hy

theorem OwS_recv (d c : Dev nD) (x : Fin 9) : OwS d 0 (recvCell x c) () = if d = peer (jx x) c then Nx x else 0 := by
  unfold OwS
  rw [Finset.sum_apply, Finsupp.finsetSum_apply, Finset.sum_eq_single x]
  · rw [if_pos (Nat.zero_le _), tallyAt_apply]
    simp only [recv_eq_iff, true_and, and_true, eq_peer_iff]
  · intro y _ hy
    rw [if_pos (Nat.zero_le _), tallyAt_apply, if_neg fun h => hy (recv_eq_iff.mp h.1).1.symm]
  · intro h; exact absurd (Finset.mem_univ x) h

theorem owed_bar (d c : Dev nD) : O₀ d (barCell c) ()
    = (if d = peer 2 c then 1 else 0) + (if d = peer 1 c then 1 else 0) + (if d = peer 0 c then 1 else 0) := by
  unfold O₀
  rw [Pi.add_apply, Finsupp.add_apply, Pi.add_apply, Finsupp.add_apply, Pi.add_apply, Finsupp.add_apply, OwS_bar, Nat.zero_add,
    tallyAt_apply, tallyAt_apply, tallyAt_apply]
  simp only [bar_eq_iff, and_true, eq_peer_iff]

theorem owed_recv (d c : Dev nD) (x : Fin 9) : O₀ d (recvCell x c) () = if d = peer (jx x) c then Nx x else 0 := by
  have h (e : Dev nD) : (tallyAt (barCell e) () 1 : CellTallies nD τ sig Unit) (recvCell x c) () = 0 := by
    rw [tallyAt_apply, if_neg fun h => by cases congrArg Prod.snd h.1]
  unfold O₀
  rw [Pi.add_apply, Finsupp.add_apply, Pi.add_apply, Finsupp.add_apply, Pi.add_apply, Finsupp.add_apply, h, h, h, OwS_recv]; rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1,
    Finset.sum_ite_eq' Finset.univ (peer 0 c) fun _ => 1, if_pos (Finset.mem_univ _), if_pos (Finset.mem_univ _), if_pos (Finset.mem_univ _)]

theorem launch_recv (c : Dev nD) (x : Fin 9) :
    tallyOn (recvCell x c) (launchCredit (Pipeline.owing O₀) 0 (recvCell x c)) = (tallyAt (recvCell x c) () (Nx x) : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (peer (jx x) c) fun _ => Nx x, if_pos (Finset.mem_univ _)]

theorem creds (c : Dev nD) :
    (Pipeline.launchCred O₀ c : sProp 𝕄)
      ⊢ iprop(cred (tallyAt (barCell c) () 3) ∗ bigSep Finset.univ fun x : Fin 9 => cred (tallyAt (recvCell x c) () (Nx x))) := by
  unfold Pipeline.launchCred
  rw [bigSep_univ_at _ (SemLoc.reg barS), launch_bar]
  refine sep_mono_right ?_
  have hsub : Finset.univ.map ⟨fun x : Fin 9 => (SemLoc.dma (recvS x) : SemLoc sig), fun _ _ h => recvS_injective (SemLoc.dma.inj h)⟩
      ⊆ (Finset.univ : Finset (SemLoc sig)).erase (SemLoc.reg barS) := fun s hs => by
    obtain ⟨x, -, rfl⟩ := Finset.mem_map.mp hs
    exact Finset.mem_erase.mpr ⟨by simp, Finset.mem_univ _⟩
  refine (BI.bigSep_subset hsub).trans ?_
  rw [bigSep_map]
  refine BI.bigSep_mono fun x _ => ?_
  rw [← launch_recv]
  exact BI.Entails.refl _

/-! ### The theorem's side conditions -/

theorem linear_intro (c : Dev nD) :
    iprop((places c ∗ payToks c) ∗ cred (tallyAt (barCell c) () 3) ∗ bigSep Finset.univ fun x : Fin 9 => cred (tallyAt (recvCell x c) () (Nx x)))
      ⊢ (linear c : sProp 𝕄) := by
  unfold places payToks linear kit
  simp only [fin19, fin9, fin3, kcell_send, kcell_recv, kcell_bar]
  iintro ⟨⟨⟨Hb, S0, S1, S2, S3, S4, S5, S6, S7, S8, R0, R1, R2, R3, R4, R5, R6, R7, R8⟩, ⟨B0, B1, B2⟩,
    ⟨T0, T1, T2, T3, T4, T5, T6, T7, T8⟩, ⟨U0, U1, U2, U3, U4, U5, U6, U7, U8⟩⟩, Hc, ⟨C0, C1, C2, C3, C4, C5, C6, C7, C8⟩⟩
  isplitl [Hb]; · iexact Hb
  isplitl [Hc]; · iexact Hc
  isplitl [B0]; · iexact B0
  isplitl [B1]; · iexact B1
  isplitl [B2]; · iexact B2
  isplitl [S0 R0 T0 U0 C0]
  · isplitl [S0]; · iexact S0
    isplitl [R0]; · iexact R0
    isplitl [T0]; · iexact T0
    isplitl [U0]; · iexact U0
    iexact C0
  isplitl [S1 R1 T1 U1 C1]
  · isplitl [S1]; · iexact S1
    isplitl [R1]; · iexact R1
    isplitl [T1]; · iexact T1
    isplitl [U1]; · iexact U1
    iexact C1
  isplitl [S2 R2 T2 U2 C2]
  · isplitl [S2]; · iexact S2
    isplitl [R2]; · iexact R2
    isplitl [T2]; · iexact T2
    isplitl [U2]; · iexact U2
    iexact C2
  isplitl [S3 R3 T3 U3 C3]
  · isplitl [S3]; · iexact S3
    isplitl [R3]; · iexact R3
    isplitl [T3]; · iexact T3
    isplitl [U3]; · iexact U3
    iexact C3
  isplitl [S4 R4 T4 U4 C4]
  · isplitl [S4]; · iexact S4
    isplitl [R4]; · iexact R4
    isplitl [T4]; · iexact T4
    isplitl [U4]; · iexact U4
    iexact C4
  isplitl [S5 R5 T5 U5 C5]
  · isplitl [S5]; · iexact S5
    isplitl [R5]; · iexact R5
    isplitl [T5]; · iexact T5
    isplitl [U5]; · iexact U5
    iexact C5
  isplitl [S6 R6 T6 U6 C6]
  · isplitl [S6]; · iexact S6
    isplitl [R6]; · iexact R6
    isplitl [T6]; · iexact T6
    isplitl [U6]; · iexact U6
    iexact C6
  isplitl [S7 R7 T7 U7 C7]
  · isplitl [S7]; · iexact S7
    isplitl [R7]; · iexact R7
    isplitl [T7]; · iexact T7
    isplitl [U7]; · iexact U7
    iexact C7
  isplitl [S8]; · iexact S8
  isplitl [R8]; · iexact R8
  isplitl [T8]; · iexact T8
  isplitl [U8]; · iexact U8
  iexact C8

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' env
  iintro ⟨-, Hlev, Hcr, -, ⟨%K, HR, HG⟩⟩
  ihave Hc := (creds (F := F) c) $$ Hcr
  imodintro
  isplitl
  · iexists K
    isplitl [HR Hlev]
    · isplitl [HR]; · iexact HR
      iexact Hlev
    iapply (linear_intro (F := F) c)
    isplitl [HG]; · iexact HG
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr bufAny
  iintro ⟨Hs, -, H⟩
  isplitl [Hs]; · iexact Hs
  iexact H

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ closed done scr bufAny
  iintro ⟨⟨Hb, ⟨S0, R0⟩, ⟨S1, R1⟩, ⟨S2, R2⟩, ⟨S3, R3⟩, ⟨S4, R4⟩, ⟨S5, R5⟩, ⟨S6, R6⟩, ⟨S7, R7⟩, ⟨S8, R8⟩⟩, H⟩
  isplitl [Hb]; · iexact Hb
  isplitr [H]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact H

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr ⟨9, (OwS_nine c).symm⟩)

/-! ### The run -/

def finalA (c : Dev nD) (w : Fin cfg0.W) : Buf (Elt F) ((cfg0.win w).arr.view.loc (c : Thread nD τ)) := (dats m 0 c).arrAt w cfg0.N

/-- Every window's array on every device, at the contents the run leaves. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the eight devices, for any float values, from any memory with zero counters: every weakly fair execution of the
    program terminates, and every final state has each window's array at the computed contents and every counter at zero. -/
theorem run_all : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem finalA_in (c : Dev nD) (w : Fin 6) (hw : w.val < 5) : finalA m c w = m ((cfg0.win w).arr.view.loc (c : Thread nD τ)) := by
  unfold finalA
  exact (dats (F := F) m 0 c).arrAt_in w (by revert w; decide) _

/-- A window's one block is its whole array. -/
theorem blk_0 (c : Dev nD) (f : Buf (Elt F) ((c : Thread nD τ).loc main_arg0)) : (win0_0.blk (0 : Fin 1)).view.read (Elt F) f = f :=
  Memref.read_access_unit_zero (Elt F) main_arg0
    (show (fun a => (win0_0.index (0 : Fin 1)) a * main_arg0.ty.shape.size a) = fun _ => 0 from funext fun a => by fin_cases a <;> decide)
    (fun a => by fin_cases a <;> decide) f
theorem blk_1 (c : Dev nD) (f : Buf (Elt F) ((c : Thread nD τ).loc main_arg1)) : (win0_1.blk (0 : Fin 1)).view.read (Elt F) f = f :=
  Memref.read_access_unit_zero (Elt F) main_arg1
    (show (fun a => (win0_1.index (0 : Fin 1)) a * main_arg1.ty.shape.size a) = fun _ => 0 from funext fun a => by fin_cases a <;> decide)
    (fun a => by fin_cases a <;> decide) f
theorem blk_2 (c : Dev nD) (f : Buf (Elt F) ((c : Thread nD τ).loc main_arg4)) : (win0_2.blk (0 : Fin 1)).view.read (Elt F) f = f :=
  Memref.read_access_unit_zero (Elt F) main_arg4
    (show (fun a => (win0_2.index (0 : Fin 1)) a * main_arg4.ty.shape.size a) = fun _ => 0 from funext fun a => by fin_cases a <;> decide)
    (fun a => by fin_cases a <;> decide) f
theorem blk_3 (c : Dev nD) (f : Buf (Elt F) ((c : Thread nD τ).loc main_arg2)) : (win0_3.blk (0 : Fin 1)).view.read (Elt F) f = f :=
  Memref.read_access_unit_zero (Elt F) main_arg2
    (show (fun a => (win0_3.index (0 : Fin 1)) a * main_arg2.ty.shape.size a) = fun _ => 0 from funext fun a => by fin_cases a <;> decide)
    (fun a => by fin_cases a <;> decide) f
theorem blk_4 (c : Dev nD) (f : Buf (Elt F) ((c : Thread nD τ).loc main_arg3)) : (win0_4.blk (0 : Fin 1)).view.read (Elt F) f = f :=
  Memref.read_access_unit_zero (Elt F) main_arg3
    (show (fun a => (win0_4.index (0 : Fin 1)) a * main_arg3.ty.shape.size a) = fun _ => 0 from funext fun a => by fin_cases a <;> decide)
    (fun a => by fin_cases a <;> decide) f
theorem blk_5 (c : Dev nD) (f : Buf (Elt F) ((c : Thread nD τ).loc main_v1)) : (win0_5.blk (0 : Fin 1)).view.read (Elt F) f = f :=
  Memref.read_access_unit_zero (Elt F) main_v1
    (show (fun a => (win0_5.index (0 : Fin 1)) a * main_v1.ty.shape.size a) = fun _ => 0 from funext fun a => by fin_cases a <;> decide)
    (fun a => by fin_cases a <;> decide) f
theorem xs_eq (c : Dev nD) : xs m c = m ((c : Thread nD τ).loc main_arg0) := blk_0 c _
theorem wqs_eq (c : Dev nD) : wqs m c = m ((c : Thread nD τ).loc main_arg1) := blk_1 c _
theorem wos_eq (c : Dev nD) : wos m c = m ((c : Thread nD τ).loc main_arg4) := blk_2 c _
theorem wks_eq (c : Dev nD) : wks m c = m ((c : Thread nD τ).loc main_arg2) := blk_3 c _
theorem wvs_eq (c : Dev nD) : wvs m c = m ((c : Thread nD τ).loc main_arg3) := blk_4 c _

/-- The result array is the three chunks side by side. -/
theorem finalA_out (c : Dev nD) : finalA m c (5 : Fin 6) = outv m c := by
  have hw : (win0_5.blk (0 : Fin 1)).view.read (Elt F) ((dats (F := F) m 0 c).arrAt (5 : Fin 6) cfg0.N) = outv m c := by
    rw [show cfg0.N = t0_0.val + 1 from rfl, (dats (F := F) m 0 c).arrAt_succ (5 : Fin 6) t0_0, flush0_5, if_pos rfl]
    exact (View.read_write_univ _ _).trans (funext fun _ => rfl)
  exact (blk_5 c _).symm.trans hw

/-- Every fair run ends with the result array holding `outv`, the arguments as they were, the counters at zero. -/
theorem run_main : θ_run defs (onTc (τ := τ) (main (F := F))) ⟨m, fun _ => 0, ρ⟩ (fun r =>
    (∀ c : Dev nD, r.2.mem ((c : Thread nD τ).loc main_v1) = outv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run (defs (F := F)) _ _).mono (fun r h => ⟨fun c =>
    ⟨(h.1 c (5 : Fin 6)).trans (finalA_out m c),
      (h.1 c (0 : Fin 6)).trans (finalA_in m c 0 (by decide)),
      (h.1 c (1 : Fin 6)).trans (finalA_in m c 1 (by decide)),
      (h.1 c (3 : Fin 6)).trans (finalA_in m c 3 (by decide)),
      (h.1 c (4 : Fin 6)).trans (finalA_in m c 4 (by decide)),
      (h.1 c (2 : Fin 6)).trans (finalA_in m c 2 (by decide))⟩, h.2⟩) (run_all m ρ)

end Cert.Exchange

end
-- ==== Proof.Frames.lean ====
/-
# 01_k — the claims about runs, and the named constant's
-/
module

public import proofs.«01_k».proof.Defs
public import proofs.«01_k».proof.Proof.Launch
public import proofs.«01_k».proof.Proof.Gen.Kernel
public import proofs.«01_k».proof.Proof.Gen.ReferenceIdeal.Run
public import Idealize.ShloMosaic.PureOps.IdealRules
public import Idealize.ShloMosaic.Adequacy
public import Idealize.ShloMosaic.Init

@[expose] public section

noncomputable section

namespace Cert.Runs

open Idealize.ShloMosaic Idealize.ShloMosaic.TcCoe Idealize.SL.Sem

/-! ## The claims about runs -/

theorem frame_pi : Cert.quiescent_KernelIdeal := fun m g _ =>
  (θ_run (Cert.KernelIdeal.defs (F := Ideal)) _ _).mono (fun _ h => ⟨fun c => (h.1 c).2, h.2⟩) (Cert.Exchange.run_main (F := Ideal) m g)

theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- A named constant read as the bits it was printed from. -/
local instance plainNamed : Named Bits where
  named _ _ {φ} b := FloatOps.ofBits φ b

/-- At machine floats, with named constants read so, the idealized program is the kernel: its body, -/
theorem body_same : Cert.KernelIdeal.defs₀ (F := Bits) = Cert.Kernel.defs₀ (F := Bits) := by
  refine congrArg Defs.onTc (funext fun l => funext fun a => ?_)
  match l, a with
  | 0, (t, s) => rfl
  | ⟨_ + 1, h⟩, _ => exact absurd h (Nat.not_lt.2 (Nat.le_add_left _ _))
/-- and its table of bodies. -/
theorem defs_same : Cert.KernelIdeal.defs (F := Bits) = Cert.Kernel.defs (F := Bits) := congrArg (Pipeline.defs Cert.KernelIdeal.pcfgs) body_same

theorem frame_p : Cert.quiescent_Kernel := fun m g _ => by
  have h := Cert.Exchange.run_main (F := Bits) m g
  rw [defs_same] at h
  exact (θ_run (Cert.Kernel.defs (F := Bits)) (onTc (τ := Cert.Kernel.τ) (Cert.Kernel.main (F := Bits))) _).mono (fun _ h => ⟨fun c => (h.1 c).2, h.2⟩) h

/-- The name of the scale stands for the rational that the float32 word of the reference is. -/
theorem preserves : Cert.preserves_Kernel_KernelIdeal :=
  IdealRules.named_const.statement Cert.KernelIdeal.κ "scale" .bf16 0x3DB5#16 ((11863283 / 134217728 : ℝ) : EReal) rfl

end Cert.Runs

end
-- ==== Proof.Heads.lean ====
/-
# 01_k — The attention of one device, read entry by entry: head `h` at row `i` and column `d` is a sum over keys of
exponentials times values, times one over the exponentials' sum.
-/
module

public import proofs.«01_k».proof.Proof.Gen.KernelIdeal.Skeleton
public import Idealize.ShloMosaic.Lib.Pointwise

@[expose] public section

noncomputable section

namespace Cert.Attn

open Idealize.ShloMosaic Idealize.ShloMosaic.TcCoe Idealize.SL.Sem
open Cert.KernelIdeal Cert.KernelIdeal.Gen

/-- Column `d` of head `h` among the columns of a device's eight heads. -/
def col (h : Fin 8) (d : Fin 128) : Fin 1024 := ⟨128 * h.val + d.val, by omega⟩

/-- The score of query row `i` against key row `j` in head `h`. -/
def sc (q k : FVec Ideal S256x1024 .bf16) (h : Fin 8) (i j : Fin 256) : EReal :=
  ∑ d : Fin 128, q (ix2 i (col h d)) * k (ix2 j (col h d))

/-- What head `h` of a device gives at row `i` and column `d`: the values weighted by the exponentials of the scores, and
    that times one over the exponentials' sum. -/
def headF (q k v : FVec Ideal S256x1024 .bf16) (h : Fin 8) (i : Fin 256) (d : Fin 128) : EReal :=
  (∑ j : Fin 256, Ideal.exp (sc q k h i j) * v (ix2 j (col h d))) * Ideal.div 1 (∑ j : Fin 256, Ideal.exp (sc q k h i j))

section
variable (q k v : FVec Ideal S256x1024 .bf16) (w : FVec Ideal S256x1024 .f32) (i : Fin 256) (d : Fin 128)

theorem head0 : k0_pay6 q k w (ix2 i d) = headF q k (k0_pay5 w) 0 i d := by
  have hc : ∀ d : Fin 128, (⟨d.val, by omega⟩ : Fin 1024) = col 0 d := fun d => Fin.ext (by simp [col])
  pointwise [k0_pay6]
  simp only [hc]; rfl

theorem head1 : k0_pay7 q k w (ix2 i d) = headF q k (k0_pay5 w) 1 i d := by
  pointwise [k0_pay7]; rfl

theorem head2 : k0_pay8 q k w (ix2 i d) = headF q k (k0_pay5 w) 2 i d := by
  pointwise [k0_pay8]; rfl

theorem head3 : k0_pay12 (k0_pay9 w) (k0_pay10 q k) (k0_pay11 q k) (ix2 i d) = headF q k (k0_pay5 w) 3 i d := by
  pointwise [k0_pay12, k0_pay9, k0_pay10, k0_pay11]; rfl

theorem head4 : k0_pay13 q k v (ix2 i d) = headF q k v 4 i d := by
  pointwise [k0_pay13]; rfl

theorem head5 : k0_pay14 q k v (ix2 i d) = headF q k v 5 i d := by
  pointwise [k0_pay14]; rfl

theorem head6 : k0_pay15 q k v (ix2 i d) = headF q k v 6 i d := by
  pointwise [k0_pay15]; rfl

set_option maxHeartbeats 2000000 in
/-- The eight heads side by side. -/
theorem heads (h0 h1 h2 h3 h4 h5 h6 : FVec Ideal S256x128 .f32) (h : Fin 8)
    (e0 : ∀ d, h0 (ix2 i d) = headF q k v 0 i d) (e1 : ∀ d, h1 (ix2 i d) = headF q k v 1 i d)
    (e2 : ∀ d, h2 (ix2 i d) = headF q k v 2 i d) (e3 : ∀ d, h3 (ix2 i d) = headF q k v 3 i d)
    (e4 : ∀ d, h4 (ix2 i d) = headF q k v 4 i d) (e5 : ∀ d, h5 (ix2 i d) = headF q k v 5 i d)
    (e6 : ∀ d, h6 (ix2 i d) = headF q k v 6 i d) :
    k0_pay16 q k v h0 h1 h2 h3 h4 h5 h6 (ix2 i (col h d)) = headF q k v h i d := by
  have hd := d.isLt
  pointwise [k0_pay16]
  have hx : (col h d).val = 128 * h.val + d.val := rfl
  generalize col h d = x at hx ⊢
  fin_vals h with hh
  · rw [hh] at hx
    obtain rfl : h = 0 := Fin.ext hh
    rw [dif_pos (by omega), e0]; exact congrArg _ (Fin.ext (by simp only []; omega))
  · rw [hh] at hx
    obtain rfl : h = 1 := Fin.ext hh
    rw [dif_neg (by omega), dif_pos (by omega), e1]; exact congrArg _ (Fin.ext (by simp only []; omega))
  · rw [hh] at hx
    obtain rfl : h = 2 := Fin.ext hh
    rw [dif_neg (by omega), dif_neg (by omega), dif_pos (by omega), e2]; exact congrArg _ (Fin.ext (by simp only []; omega))
  · rw [hh] at hx
    obtain rfl : h = 3 := Fin.ext hh
    rw [dif_neg (by omega), dif_neg (by omega), dif_neg (by omega), dif_pos (by omega), e3]; exact congrArg _ (Fin.ext (by simp only []; omega))
  · rw [hh] at hx
    obtain rfl : h = 4 := Fin.ext hh
    rw [dif_neg (by omega), dif_neg (by omega), dif_neg (by omega), dif_neg (by omega), dif_pos (by omega), e4]; exact congrArg _ (Fin.ext (by simp only []; omega))
  · rw [hh] at hx
    obtain rfl : h = 5 := Fin.ext hh
    rw [dif_neg (by omega), dif_neg (by omega), dif_neg (by omega), dif_neg (by omega), dif_neg (by omega), dif_pos (by omega), e5]; exact congrArg _ (Fin.ext (by simp only []; omega))
  · rw [hh] at hx
    obtain rfl : h = 6 := Fin.ext hh
    rw [dif_neg (by omega), dif_neg (by omega), dif_neg (by omega), dif_neg (by omega), dif_neg (by omega), dif_neg (by omega), dif_pos (by omega), e6]; exact congrArg _ (Fin.ext (by simp only []; omega))
  · rw [hh] at hx
    obtain rfl : h = 7 := Fin.ext hh
    rw [dif_neg (by omega), dif_neg (by omega), dif_neg (by omega), dif_neg (by omega), dif_neg (by omega), dif_neg (by omega)]
    refine (dif_neg (by omega)).trans ?_
    have e : (⟨896 + (x.val - 128 - 128 - 128 - 128 - 128 - 128 - 128), by omega⟩ : Fin 1024) = col 7 d :=
      Fin.ext (by simp only [col, Fin.isValue]; have : (7 : Fin 8).val = 7 := rfl; omega)
    have e' : ∀ y : Fin 128, (⟨896 + y.val, by omega⟩ : Fin 1024) = col 7 y := fun y => rfl
    simp only [e, e', headF, sc]

end

end Cert.Attn

end
-- ==== Proof.Sums.lean ====
/-
# 01_k — The result of any device is the sum of all devices' parts of the output projection: the three exchange rounds, chunk by
chunk.
-/
module

public import proofs.«01_k».proof.Proof.Heads
public import proofs.«01_k».proof.Proof.Launch

@[expose] public section

noncomputable section

namespace Cert.Attn

open Idealize.ShloMosaic Idealize.ShloMosaic.TcCoe Idealize.SL.Sem
open Cert.KernelIdeal Cert.KernelIdeal.Gen Cert.Exchange

variable (m : (ℓ : Loc nD τ sig) → Buf (Elt Ideal) ℓ) (c : Dev nD) (i : Fin 256)

/-- Device `c`'s part of the output projection at row `i` and column `n`. -/
def part (c : Dev nD) (i : Fin 256) (n : Fin 1024) : EReal :=
  ∑ x : Fin 1024, att (F := Ideal) m c (ix2 i x) * (show FVec Ideal S1024x1024 .bf16 from wos (F := Ideal) m c) (ix2 x n)

theorem ldW_ap (s : Vec Ideal S256x384 .bf16) (d : Fin 384) : ldW s (ix3 0 i d) = s (ix2 i d) := by
  unfold ldW; exact congrArg s ((Equiv.symm_apply_eq _).2 (by pointwise))

theorem ldN_ap (s : Vec Ideal S256x256 .bf16) (d : Fin 256) : ldN s (ix3 0 i d) = s (ix2 i d) := by
  unfold ldN; exact congrArg s ((Equiv.symm_apply_eq _).2 (by pointwise))

theorem k00_ap (d : Fin 384) : k00 (F := Ideal) m c (ix2 i d) = part m c i ⟨d.val, by omega⟩ := by
  unfold k00; pointwise [k0_pay18, k0_pay17]; rfl
theorem k01_ap (d : Fin 384) : k01 (F := Ideal) m c (ix2 i d) = part m c i ⟨384 + d.val, by omega⟩ := by
  unfold k01; pointwise [k0_pay20, k0_pay17]; rfl
theorem k02_ap (d : Fin 256) : k02 (F := Ideal) m c (ix2 i d) = part m c i ⟨768 + d.val, by omega⟩ := by
  unfold k02 wot; pointwise [k0_pay22, k0_pay17]; rfl

theorem s00_ap (d : Fin 384) : s00 (F := Ideal) m c (ix2 i d) = k00 (F := Ideal) m c (ix2 i d) := by
  unfold s00; pointwise [k0_pay19]; rfl
theorem s01_ap (d : Fin 384) : s01 (F := Ideal) m c (ix2 i d) = k01 (F := Ideal) m c (ix2 i d) := by
  unfold s01; pointwise [k0_pay21]
theorem s02_ap (d : Fin 256) : s02 (F := Ideal) m c (ix2 i d) = k02 (F := Ideal) m c (ix2 i d) := by
  unfold s02; pointwise [k0_pay23]; rfl
theorem s10_ap (d : Fin 384) : s10 (F := Ideal) m c (ix2 i d) = k10 (F := Ideal) m c (ix2 i d) := by
  unfold s10; pointwise [k0_pay25]; rfl
theorem s11_ap (d : Fin 384) : s11 (F := Ideal) m c (ix2 i d) = k11 (F := Ideal) m c (ix2 i d) := by
  unfold s11; pointwise [k0_pay27]; rfl
theorem s12_ap (d : Fin 256) : s12 (F := Ideal) m c (ix2 i d) = k12 (F := Ideal) m c (ix2 i d) := by
  unfold s12; pointwise [k0_pay29]; rfl
theorem s20_ap (d : Fin 384) : s20 (F := Ideal) m c (ix2 i d) = k20 (F := Ideal) m c (ix2 i d) := by
  unfold s20; pointwise [k0_pay31]; rfl
theorem s21_ap (d : Fin 384) : s21 (F := Ideal) m c (ix2 i d) = k21 (F := Ideal) m c (ix2 i d) := by
  unfold s21; pointwise [k0_pay33]; rfl
theorem s22_ap (d : Fin 256) : s22 (F := Ideal) m c (ix2 i d) = k22 (F := Ideal) m c (ix2 i d) := by
  unfold s22; pointwise [k0_pay35]; rfl

theorem k10_ap (d : Fin 384) : k10 (F := Ideal) m c (ix2 i d) = k00 (F := Ideal) m c (ix2 i d) + s00 (F := Ideal) m (peer 0 c) (ix2 i d) := by
  unfold k10; pointwise [k0_pay24]; rw [ldW_ap]; rfl
theorem k11_ap (d : Fin 384) : k11 (F := Ideal) m c (ix2 i d) = k01 (F := Ideal) m c (ix2 i d) + s01 (F := Ideal) m (peer 1 c) (ix2 i d) := by
  unfold k11; pointwise [k0_pay26]; rw [ldW_ap]; rfl
theorem k12_ap (d : Fin 256) : k12 (F := Ideal) m c (ix2 i d) = k02 (F := Ideal) m c (ix2 i d) + s02 (F := Ideal) m (peer 2 c) (ix2 i d) := by
  unfold k12; pointwise [k0_pay28]; rw [ldN_ap]; rfl
theorem k20_ap (d : Fin 384) : k20 (F := Ideal) m c (ix2 i d) = k10 (F := Ideal) m c (ix2 i d) + s10 (F := Ideal) m (peer 1 c) (ix2 i d) := by
  unfold k20; pointwise [k0_pay30]; rw [ldW_ap]; rfl
theorem k21_ap (d : Fin 384) : k21 (F := Ideal) m c (ix2 i d) = k11 (F := Ideal) m c (ix2 i d) + s11 (F := Ideal) m (peer 2 c) (ix2 i d) := by
  unfold k21; pointwise [k0_pay32]; rw [ldW_ap]; rfl
theorem k22_ap (d : Fin 256) : k22 (F := Ideal) m c (ix2 i d) = k12 (F := Ideal) m c (ix2 i d) + s12 (F := Ideal) m (peer 0 c) (ix2 i d) := by
  unfold k22; pointwise [k0_pay34]; rw [ldN_ap]; rfl
theorem out0_ap (d : Fin 384) : out0 (F := Ideal) m c (ix2 i d) = k20 (F := Ideal) m c (ix2 i d) + s20 (F := Ideal) m (peer 2 c) (ix2 i d) := by
  unfold out0; pointwise [k0_pay37, k0_pay36]; rw [ldW_ap]; rfl
theorem out1_ap (d : Fin 384) : out1 (F := Ideal) m c (ix2 i d) = k21 (F := Ideal) m c (ix2 i d) + s21 (F := Ideal) m (peer 0 c) (ix2 i d) := by
  unfold out1; pointwise [k0_pay38]; rw [ldW_ap]; rfl
theorem out2_ap (d : Fin 256) : out2 (F := Ideal) m c (ix2 i d) = k22 (F := Ideal) m c (ix2 i d) + s22 (F := Ideal) m (peer 1 c) (ix2 i d) := by
  unfold out2; pointwise [k0_pay39]; rw [ldN_ap]; rfl

/-- A device's value by its number. -/
def byNo (p : Dev nD → EReal) (k : ℕ) : EReal := if h : k < 8 then p ⟨k, h⟩ else 0
theorem byNo_mk (p : Dev nD → EReal) (k : ℕ) (h : k < nD) : p ⟨k, h⟩ = byNo p k := by
  unfold byNo; rw [dif_pos (show k < 8 from h)]

/-- The sum over the eight devices, written out. -/
theorem sum_eight (p : Dev nD → EReal) : (∑ b : Dev nD, p b)
    = byNo p 0 + byNo p 1 + byNo p 2 + byNo p 3 + byNo p 4 + byNo p 5 + byNo p 6 + byNo p 7 :=
  Fin.sum_univ_eight p

/-- Three rounds of exchanges, with partners 0, 1, 2 in turn, add every device's part. -/
theorem rounds0 (p : Dev nD → EReal) (c : Dev nD) :
    ((p c + p (peer 0 c)) + (p (peer 1 c) + p (peer 0 (peer 1 c))))
      + ((p (peer 2 c) + p (peer 0 (peer 2 c))) + (p (peer 1 (peer 2 c)) + p (peer 0 (peer 1 (peer 2 c))))) = ∑ b : Dev nD, p b := by
  rw [sum_eight]
  obtain ⟨c, hc⟩ := c
  simp only [peer, byNo_mk]
  have hc' : c < 8 := hc
  interval_cases c <;> simp <;> abel

/-- Three rounds of exchanges, with partners 1, 2, 0 in turn, add every device's part. -/
theorem rounds1 (p : Dev nD → EReal) (c : Dev nD) :
    ((p c + p (peer 1 c)) + (p (peer 2 c) + p (peer 1 (peer 2 c))))
      + ((p (peer 0 c) + p (peer 1 (peer 0 c))) + (p (peer 2 (peer 0 c)) + p (peer 1 (peer 2 (peer 0 c))))) = ∑ b : Dev nD, p b := by
  rw [sum_eight]
  obtain ⟨c, hc⟩ := c
  simp only [peer, byNo_mk]
  have hc' : c < 8 := hc
  interval_cases c <;> simp <;> abel

/-- Three rounds of exchanges, with partners 2, 0, 1 in turn, add every device's part. -/
theorem rounds2 (p : Dev nD → EReal) (c : Dev nD) :
    ((p c + p (peer 2 c)) + (p (peer 0 c) + p (peer 2 (peer 0 c))))
      + ((p (peer 1 c) + p (peer 2 (peer 1 c))) + (p (peer 0 (peer 1 c)) + p (peer 2 (peer 0 (peer 1 c))))) = ∑ b : Dev nD, p b := by
  rw [sum_eight]
  obtain ⟨c, hc⟩ := c
  simp only [peer, byNo_mk]
  have hc' : c < 8 := hc
  interval_cases c <;> simp <;> abel

section
variable {α : Type} (W o : ℕ) (x : S256x1024.Idx → α) (w : (⟨2, ![256, W]⟩ : Shape).Idx → α) (n : Fin 1024)

theorem put_in (h1 : o ≤ n.val) (h2 : n.val < o + W) :
    VecWindow.put (s := S256x1024) x ![0, o] (⟨2, ![256, W]⟩ : Shape).size w (ix2 i n) = w (ix2 i ⟨n.val - o, by omega⟩) := by
  unfold VecWindow.put
  have h : ∀ a : Fin 2, (![0, o] : Fin 2 → ℕ) a ≤ ((ix2 i n : S256x1024.Idx) a).val
      ∧ ((ix2 i n : S256x1024.Idx) a).val < (![0, o] : Fin 2 → ℕ) a + (⟨2, ![256, W]⟩ : Shape).size a := by
    intro a
    match a with
    | 0 => exact ⟨Nat.zero_le _, by show i.val < 0 + 256; omega⟩
    | 1 => exact ⟨h1, h2⟩
  refine (dif_pos h).trans (congrArg w (funext fun a => ?_))
  match a with
  | 0 => rfl
  | 1 => rfl

theorem put_out (h1 : ¬ (o ≤ n.val ∧ n.val < o + W)) :
    VecWindow.put (s := S256x1024) x ![0, o] (⟨2, ![256, W]⟩ : Shape).size w (ix2 i n) = x (ix2 i n) := by
  unfold VecWindow.put
  exact dif_neg fun h => h1 (h 1)

end

/-- The output block of any device is the sum of all devices' parts. -/
theorem outv_ap (n : Fin 1024) : outv (F := Ideal) m c (ix2 i n) = ∑ b : Dev nD, part m b i n := by
  unfold outv
  by_cases g2 : 768 ≤ n.val
  · rw [put_in i 256 768 _ _ n g2 (by omega), out2_ap, s22_ap, k22_ap, k22_ap, s12_ap, s12_ap, k12_ap, k12_ap, k12_ap, k12_ap]
    simp only [s02_ap, k02_ap]
    rw [show (⟨768 + (n.val - 768), by omega⟩ : Fin 1024) = n from Fin.ext (by simp only []; omega)]
    exact rounds2 (fun b => part m b i n) c
  · rw [put_out i 256 768 _ _ n (by omega)]
    by_cases g1 : 384 ≤ n.val
    · rw [put_in i 384 384 _ _ n g1 (by omega), out1_ap, s21_ap, k21_ap, k21_ap, s11_ap, s11_ap, k11_ap, k11_ap, k11_ap, k11_ap]
      simp only [s01_ap, k01_ap]
      rw [show (⟨384 + (n.val - 384), by omega⟩ : Fin 1024) = n from Fin.ext (by simp only []; omega)]
      exact rounds1 (fun b => part m b i n) c
    · rw [put_out i 384 384 _ _ n (by omega), put_in i 384 0 _ _ n (by omega) (by omega), out0_ap, s20_ap, k20_ap, k20_ap, s10_ap, s10_ap,
        k10_ap, k10_ap, k10_ap, k10_ap]
      simp only [s00_ap, k00_ap]
      exact rounds0 (fun b => part m b i n) c

end Cert.Attn

end
-- ==== Proof.Softmax.lean ====
/-
# 01_k — Over the extended reals: sums of reals, the greatest of finitely many reals, and that taking one number from all scores
of a row changes nothing.
-/
module

public import Idealize.ShloMosaic.Lib.Pointwise

@[expose] public section

noncomputable section

namespace Cert.Attn

open Idealize.ShloMosaic Idealize.ShloMosaic.TcCoe Idealize.SL.Sem
/-- A nonnegative real factor goes into a sum of extended reals. -/
theorem coe_mul_sum {ι : Type} (t : Finset ι) (c : ℝ) (hc : 0 ≤ c) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha,
      EReal.left_distrib_of_nonneg_of_ne_top (EReal.coe_nonneg.2 hc) (EReal.coe_ne_top c), ih]

theorem coe_sum {ι : Type} (t : Finset ι) (f : ι → ℝ) : ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

/-- The largest of finitely many reals, at least one, is a real. -/
theorem fold_max_coe {n : ℕ} (r : Fin (n + 1) → ℝ) :
    ∃ μ : ℝ, Finset.univ.fold max (⊥ : EReal) (fun j => ((r j : ℝ) : EReal)) = (μ : EReal) := by
  suffices h : ∀ t : Finset (Fin (n + 1)), t.fold max (⊥ : EReal) (fun j => ((r j : ℝ) : EReal)) = ⊥ ∧ t = ∅ ∨
      ∃ μ : ℝ, t.fold max (⊥ : EReal) (fun j => ((r j : ℝ) : EReal)) = (μ : EReal) by
    rcases h Finset.univ with h | h
    · exact absurd h.2 Finset.univ_nonempty.ne_empty
    · exact h
  intro t
  induction t using Finset.induction_on with
  | empty => exact .inl ⟨rfl, rfl⟩
  | insert a t ha ih =>
    right
    rw [Finset.fold_insert ha]
    rcases ih with ⟨h, -⟩ | ⟨μ, h⟩
    · exact ⟨r a, by rw [h]; exact max_eq_left bot_le⟩
    · exact ⟨max (r a) μ, by rw [h]; exact (EReal.coe_strictMono.monotone.map_max).symm⟩

/-- The quotient by the sum of exponentials does not see a real subtracted from every score. -/
theorem softmax_eq {n : ℕ} (r : Fin (n + 1) → ℝ) (μ : ℝ) (v : Fin (n + 1) → EReal) :
    (∑ j, Ideal.exp ((r j : ℝ) : EReal) * v j) * Ideal.div 1 (∑ j, Ideal.exp ((r j : ℝ) : EReal))
      = Ideal.div (∑ j, v j * Ideal.exp (((r j : ℝ) : EReal) - (μ : EReal))) (∑ j, Ideal.exp (((r j : ℝ) : EReal) - (μ : EReal))) := by
  have e : ∀ j, Ideal.exp (((r j : ℝ) : EReal) - (μ : EReal)) = ((Real.exp (r j - μ) : ℝ) : EReal) := fun j => by
    rw [← EReal.coe_sub, Ideal.exp_coe]
  simp only [e, Ideal.exp_coe, coe_sum]
  have hL : 0 < ∑ j, Real.exp (r j) := Finset.sum_pos (fun j _ => Real.exp_pos _) Finset.univ_nonempty
  have hL' : 0 < ∑ j, Real.exp (r j - μ) := Finset.sum_pos (fun j _ => Real.exp_pos _) Finset.univ_nonempty
  have hLL : ∑ j, Real.exp (r j - μ) = (∑ j, Real.exp (r j)) * Real.exp (-μ) := by
    rw [Finset.sum_mul]; exact Finset.sum_congr rfl fun j _ => by rw [← Real.exp_add, sub_eq_add_neg]
  rw [Ideal.div_coe hL.ne', Ideal.div_coe hL'.ne', one_mul, mul_comm, mul_comm (∑ j, v j * _),
    coe_mul_sum _ _ (one_div_pos.2 hL).le, coe_mul_sum _ _ (one_div_pos.2 hL').le]
  refine Finset.sum_congr rfl fun j _ => ?_
  rw [mul_comm (v j), ← mul_assoc, ← mul_assoc, ← EReal.coe_mul, ← EReal.coe_mul]
  congr 2
  rw [hLL, sub_eq_add_neg, Real.exp_add]
  have h1 := (Real.exp_pos (-μ)).ne'
  have h2 := hL.ne'
  field_simp

end Cert.Attn

end
-- ==== Proof.Refval.lean ====
/-
# 01_k — The reference's result, entry by entry: its operations in stages, and each stage at an index.
-/
module

public import proofs.«01_k».proof.Proof.Gen.ReferenceIdeal.Run
public import Idealize.ShloMosaic.Lib.Pointwise
public import Idealize.ShloMosaic.Lib.Tactic.CleanTypes

@[expose] public section

noncomputable section

namespace Cert.Attn

open Idealize.ShloMosaic Idealize.ShloMosaic.TcCoe Idealize.SL.Sem
open Cert.ReferenceIdeal Cert.ReferenceIdeal.Gen Cert.ReferenceIdeal.Value

/-- The greatest entry along the last axis, at general sizes. -/
theorem max_ap {n0 n1 n2 n3 : ℕ} (s : FVec Ideal ⟨4, ![n0, n1, n2, n3]⟩ .f32) (c : FVec Ideal S_ .f32)
    (hr : (⟨4, ![n0, n1, n2, n3]⟩ : Shape).ReducesTo [3] ⟨3, ![n0, n1, n2]⟩) (hu : 0 < S_.numel) (a : Fin n0) (h : Fin n1) (i : Fin n2) :
    Host.reduce FloatOps.maximumf s c hr hu (ix3 a h i)
      = Finset.univ.fold max (c (Shape.Idx.first hu)) fun j : Fin n3 => s (ix4 a h i j) := by
  pointwise

/-! ### The reference's operations, in stages. -/

section
variable (X : FVec Ideal S1x256x1024 .bf16) (W : FVec Ideal S1024x8192 .bf16) (q k v : FVec Ideal S1x256x64x128 .bf16)
  (s e : FVec Ideal S1x64x256x256 .f32) (t u w : FVec Ideal S1x64x256x1 .f32) (a : FVec Ideal S1x256x64x128 .f32)
  (Wo : FVec Ideal S8192x1024 .bf16)

/-- A projection, its columns in heads. -/
def rp : FVec Ideal S1x256x64x128 .bf16 :=
  shapeCast _ (truncf .bf16 (Host.dotGeneral dot_S1x256x1024_S1024x8192_S1x256x8192_2_0_01_1_n_n none X W) bitsLt_bf16_f32)
    shapeCasts_S1x256x8192_S1x256x64x128
/-- The scaled scores. -/
def rs : FVec Ideal S1x64x256x256 .f32 :=
  mulf (extf .f32 (truncf .bf16 (Host.dotGeneral dot_S1x256x64x128_S1x256x64x128_S1x64x256x256_3_3_1_1_02_02 none q k)
    bitsLt_bf16_f32) bitsLt_bf16_f32) (broadcastInDim S1x64x256x256 ![] bcast_S_S1x64x256x256 (constant S_ .f32 0x3DB504F3#32))
/-- Each row's greatest score. -/
def rt : FVec Ideal S1x64x256x1 .f32 :=
  maximumf (broadcastInDim S1x64x256x1 ![] bcast_S_S1x64x256x1 (constant S_ .f32 0xFF800000#32))
    (broadcastInDim S1x64x256x1 ![0, 1, 2] bcast_S1x64x256_S1x64x256x1_0_1_2
      (Host.reduce FloatOps.maximumf s (constant S_ .f32 0xFF800000#32) reducesTo_S1x64x256x256_S1x64x256_d3 h_S_))
/-- The factor of what came before the first block of keys, which is nothing. -/
def ru : FVec Ideal S1x64x256x1 .f32 :=
  Host.exp (subf (broadcastInDim S1x64x256x1 ![] bcast_S_S1x64x256x1 (constant S_ .f32 0xFF800000#32)) t)
/-- The exponentials. -/
def re : FVec Ideal S1x64x256x256 .f32 :=
  Host.exp (subf s (broadcastInDim S1x64x256x256 ![0, 1, 2, 3] bcast_S1x64x256x1_S1x64x256x256_0_1_2_3 t))
/-- Their sums. -/
def rw' : FVec Ideal S1x64x256x1 .f32 :=
  addf (mulf (broadcastInDim S1x64x256x1 ![] bcast_S_S1x64x256x1 (constant S_ .f32 0x00000000#32)) u)
    (broadcastInDim S1x64x256x1 ![0, 1, 2] bcast_S1x64x256_S1x64x256x1_0_1_2
      (Host.reduceAdd e (constant S_ .f32 0x00000000#32) reducesTo_S1x64x256x256_S1x64x256_d3 h_S_))
/-- The attention. -/
def ra : FVec Ideal S1x256x64x128 .f32 :=
  Host.divf (addf (mulf (broadcastInDim S1x256x64x128 ![] bcast_S_S1x256x64x128 (constant S_ .f32 0x00000000#32))
      (broadcastInDim S1x256x64x128 ![0, 1, 2, 3] bcast_S1x256x64x1_S1x256x64x128_0_1_2_3
        (transpose S1x256x64x1 [0, 2, 1, 3] u transposes_S1x64x256x1_S1x256x64x1_0_2_1_3)))
    (transpose S1x256x64x128 [0, 3, 1, 2] (Host.dotGeneral dot_S1x256x64x128_S1x64x256x256_S1x64x128x256_1_3_3_2_02_01 none
      (extf .f32 v bitsLt_bf16_f32) e) transposes_S1x64x128x256_S1x256x64x128_0_3_1_2))
    (broadcastInDim S1x256x64x128 ![0, 1, 2, 3] bcast_S1x256x64x1_S1x256x64x128_0_1_2_3
      (transpose S1x256x64x1 [0, 2, 1, 3] w transposes_S1x64x256x1_S1x256x64x1_0_2_1_3))
/-- The output projection. -/
def ro : FVec Ideal S256x1024 .f32 :=
  shapeCast _ (Host.dotGeneral dot_S1x256x8192_S8192x1024_S1x256x1024_2_0_01_1_n_n none
    (shapeCast _ a shapeCasts_S1x256x64x128_S1x256x8192) (extf .f32 Wo bitsLt_bf16_f32)) shapeCasts_S1x256x1024_S256x1024

variable (i j : Fin 256) (h : Fin 64) (d : Fin 128) (n : Fin 1024)

theorem rp_ap : rp X W (ix4 0 i h d) = ∑ x : Fin 1024, X (ix3 0 i x) * W (ix2 x ⟨h.val * 128 + d.val, by omega⟩) := by
  pointwise [rp]
theorem rs_ap : rs q k (ix4 0 h i j) = (∑ d : Fin 128, q (ix4 0 i h d) * k (ix4 0 j h d)) * Ideal.ofBits .f32 0x3DB504F3#32 := by
  pointwise [rs]
theorem rt_ap : rt s (ix4 0 h i 0) = max (Ideal.ofBits .f32 0xFF800000#32)
    (Finset.univ.fold max (Ideal.ofBits .f32 0xFF800000#32) fun j => s (ix4 0 h i j)) := by
  unfold rt
  rw [maximumf_apply]
  have e : ∀ (x : FVec Ideal S1x64x256 .f32), (broadcastInDim S1x64x256x1 ![0, 1, 2] bcast_S1x64x256_S1x64x256x1_0_1_2 x) (ix4 0 h i 0)
    = x (ix3 0 h i) := fun x => by pointwise
  have e' : (broadcastInDim S1x64x256x1 ![] bcast_S_S1x64x256x1 (constant (F := Ideal) S_ .f32 0xFF800000#32)) (ix4 0 h i 0)
    = Ideal.ofBits .f32 0xFF800000#32 := by pointwise
  rw [e, e', max_ap]
  rfl
theorem ru_ap : ru t (ix4 0 h i 0) = Ideal.exp (Ideal.ofBits .f32 0xFF800000#32 - t (ix4 0 h i 0)) := by
  pointwise [ru]
theorem re_ap : re s t (ix4 0 h i j) = Ideal.exp (s (ix4 0 h i j) - t (ix4 0 h i 0)) := by
  pointwise [re]
theorem rw_ap : rw' e u (ix4 0 h i 0) = 0 * u (ix4 0 h i 0) + ∑ j : Fin 256, e (ix4 0 h i j) := by
  pointwise [rw']
theorem ra_ap : ra v e u w (ix4 0 i h d)
    = Ideal.div (0 * u (ix4 0 h i 0) + ∑ j : Fin 256, v (ix4 0 j h d) * e (ix4 0 h i j)) (w (ix4 0 h i 0)) := by
  pointwise [ra]
theorem ro_ap : ro a Wo (ix2 i n)
    = ∑ x : Fin 8192, a (ix4 0 i ⟨x.val / 128, by omega⟩ ⟨x.val % 128, by omega⟩) * Wo (ix2 x n) := by
  pointwise [ro]
end

/-- The reference's attention, of its arguments. -/
def rA (X : FVec Ideal S1x256x1024 .bf16) (Wq Wk Wv : FVec Ideal S1024x8192 .bf16) : FVec Ideal S1x256x64x128 .f32 :=
  ra (rp X Wv) (re (rs (rp X Wq) (rp X Wk)) (rt (rs (rp X Wq) (rp X Wk)))) (ru (rt (rs (rp X Wq) (rp X Wk))))
    (rw' (re (rs (rp X Wq) (rp X Wk)) (rt (rs (rp X Wq) (rp X Wk)))) (ru (rt (rs (rp X Wq) (rp X Wk)))))

/-- The reference's result, in those stages. -/
theorem res_eq (m : (ℓ : Loc nD τ sig) → Buf (Elt Ideal) ℓ) :
    res_main_v42 (F := Ideal) m 0 = ro (rA (m ((0 : Dev nD).tc.loc main_arg0)) (m ((0 : Dev nD).tc.loc main_arg1))
      (m ((0 : Dev nD).tc.loc main_arg2)) (m ((0 : Dev nD).tc.loc main_arg3))) (m ((0 : Dev nD).tc.loc main_arg4)) := by
  unfold res_main_v42 rA ro ra rw' re ru rt rs rp
  rfl

theorem ofBits_bot : Ideal.ofBits .f32 0xFF800000#32 = ⊥ := by
  simp [Ideal.ofBits, Ideal.ieee]

theorem ofBits_scale : Ideal.ofBits .f32 0x3DB504F3#32 = ((11863283 / 134217728 : ℝ) : EReal) := by
  simp [Ideal.ofBits, Ideal.ieee, -EReal.coe_mul]; norm_num

end Cert.Attn

end
-- ==== Proof.Value.lean ====
/-
# 01_k — The kernel's result is the reference's: the scale moves out of the scores, a device's heads are the reference's heads, and
the parts add up to the whole projection.
-/
module

public import proofs.«01_k».proof.Proof.Sums
public import proofs.«01_k».proof.Proof.Softmax
public import proofs.«01_k».proof.Proof.Refval
public import Idealize.ShloMosaic.Lib.Pointwise
public import Idealize.ShloMosaic.Lib.Pointwise.Select
public import Idealize.ShloMosaic.PureOps.IdealRules
public import proofs.«01_k».proof.Defs

@[expose] public section

noncomputable section

namespace Cert.Attn

open Idealize.ShloMosaic Idealize.ShloMosaic.TcCoe Idealize.SL.Sem
open Cert.KernelIdeal Cert.KernelIdeal.Gen Cert.Exchange

section
variable (X : FVec Ideal S1x256x1024 .bf16) (W : FVec Ideal S1024x1024 .bf16) (i : Fin 256) (n : Fin 1024)

theorem pay2_ap : k0_pay2 X W (ix2 i n)
    = ∑ x : Fin 1024, X (ix3 0 i x) * (W (ix2 x n) * ((11863283 / 134217728 : ℝ) : EReal)) := by
  have e : Named.named (F := Ideal) (φ := .bf16) κ "scale" 0x3DB5#16 = ((11863283 / 134217728 : ℝ) : EReal) :=
    IdealRules.named_const.ideal_named_scalar _ _ _ _ rfl
  pointwise [k0_pay2, k0_pay1]
  simp only [e]

theorem pay3_ap : k0_pay3 X W (ix2 i n) = ∑ x : Fin 1024, X (ix3 0 i x) * W (ix2 x n) := by
  pointwise [k0_pay3, k0_pay1]

theorem pay5_ap : k0_pay5 (k0_pay4 X W) (ix2 i n) = ∑ x : Fin 1024, X (ix3 0 i x) * W (ix2 x n) := by
  pointwise [k0_pay5, k0_pay4, k0_pay1]
end

/-- A device's attention, head by head. -/
theorem att_ap (m : (ℓ : Loc nD τ sig) → Buf (Elt Ideal) ℓ) (c : Dev nD) (i : Fin 256) (h : Fin 8) (d : Fin 128) :
    att (F := Ideal) m c (ix2 i (col h d)) = headF (qv m c) (kv m c) (vb m c) h i d :=
  heads _ _ _ i d _ _ _ _ _ _ _ h (fun d => head0 _ _ _ i d) (fun d => head1 _ _ _ i d) (fun d => head2 _ _ _ i d)
    (fun d => head3 _ _ _ i d) (fun d => head4 _ _ _ i d) (fun d => head5 _ _ _ i d) (fun d => head6 _ _ _ i d)

/-- A number whose absolute value is less than infinity is a real. -/
theorem fin_of (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e, show (1#1 : BitVec 1) = 1 from rfl, Ideal.cmp_olt_eq_one] at h
  induction x with
  | bot => simp at h
  | top => simp at h
  | coe r => exact ⟨r, rfl⟩

/-- The whole width is the devices' widths one after another. -/
theorem split (f : Fin 8192 → EReal) :
    ∑ e, f e = ∑ c : Fin 8, ∑ y : Fin 1024, f ⟨1024 * c.val + y.val, by omega⟩ := by
  rw [← Fintype.sum_prod_type' (f := fun (c : Fin 8) (y : Fin 1024) => f ⟨1024 * c.val + y.val, by omega⟩)]
  exact (Fintype.sum_equiv (finProdFinEquiv (m := 8) (n := 1024)) _ (f : Fin (8 * 1024) → EReal)
    (fun p => congrArg f (Fin.ext (by simp [finProdFinEquiv]; omega)))).symm

section
variable (x y : Fin 1024 → ℝ) (a b : Fin 1024 → Fin 128 → ℝ) (σ : ℝ)

/-- A score with the scale taken outside, over the reals. -/
def rsc : ℝ := (∑ d : Fin 128, (∑ k : Fin 1024, x k * a k d) * ∑ k : Fin 1024, y k * b k d) * σ

theorem score_out : (∑ d : Fin 128, (∑ k : Fin 1024, (x k : EReal) * (a k d : EReal)) * ∑ k : Fin 1024, (y k : EReal) * (b k d : EReal))
    * (σ : EReal) = (rsc x y a b σ : EReal) := by
  simp only [← EReal.coe_mul, coe_sum]; rfl

theorem score_in : (∑ d : Fin 128, (∑ k : Fin 1024, (x k : EReal) * ((a k d : EReal) * (σ : EReal)))
    * ∑ k : Fin 1024, (y k : EReal) * (b k d : EReal)) = (rsc x y a b σ : EReal) := by
  simp only [← EReal.coe_mul, coe_sum]
  congr 1
  unfold rsc
  rw [Finset.sum_mul]
  refine Finset.sum_congr rfl fun d _ => ?_
  rw [mul_right_comm]
  congr 1
  rw [Finset.sum_mul]
  exact Finset.sum_congr rfl fun n _ => (mul_assoc _ _ _).symm
end

section
variable (X : FVec Ideal S1x256x1024 .bf16) (wq wk wv : FVec Ideal S1024x1024 .bf16)
  (Wq Wk Wv : FVec Ideal Cert.ReferenceIdeal.S1024x8192 .bf16) (c : Fin 8)

/-- One head of one device is the reference's head at that place. -/
theorem head_eq (hX : ∀ i k, ∃ r : ℝ, X (ix3 0 i k) = (r : EReal)) (hq : ∀ k n, ∃ r : ℝ, wq (ix2 k n) = (r : EReal))
    (hk : ∀ k n, ∃ r : ℝ, wk (ix2 k n) = (r : EReal))
    (eq : ∀ (k n : Fin 1024), wq (ix2 k n) = Wq (ix2 k ⟨1024 * c.val + n.val, by omega⟩))
    (ek : ∀ (k n : Fin 1024), wk (ix2 k n) = Wk (ix2 k ⟨1024 * c.val + n.val, by omega⟩))
    (ev : ∀ (k n : Fin 1024), wv (ix2 k n) = Wv (ix2 k ⟨1024 * c.val + n.val, by omega⟩))
    (h : Fin 8) (i : Fin 256) (d : Fin 128) :
    headF (k0_pay2 X wq) (k0_pay3 X wk) (k0_pay5 (k0_pay4 X wv)) h i d
      = rA X Wq Wk Wv (ix4 0 i ⟨8 * c.val + h.val, by omega⟩ d) := by
  choose x hx using hX
  choose q hq using hq
  choose k hk using hk
  have cl : ∀ d : Fin 128, (⟨(8 * c.val + h.val) * 128 + d.val, by omega⟩ : Fin 8192) = ⟨1024 * c.val + (col h d).val, by simp only [col]; omega⟩ :=
    fun d => Fin.ext (by simp only [col]; omega)
  have pq : ∀ i d, rp X Wq (ix4 0 i ⟨8 * c.val + h.val, by omega⟩ d) = ∑ n : Fin 1024, (x i n : EReal) * (q n (col h d) : EReal) := by
    intro i d; rw [rp_ap]
    exact Finset.sum_congr rfl fun n _ => by rw [cl, ← eq, hx, hq]
  have pk : ∀ i d, rp X Wk (ix4 0 i ⟨8 * c.val + h.val, by omega⟩ d) = ∑ n : Fin 1024, (x i n : EReal) * (k n (col h d) : EReal) := by
    intro i d; rw [rp_ap]
    exact Finset.sum_congr rfl fun n _ => by rw [cl, ← ek, hx, hk]
  have pv : ∀ i, rp X Wv (ix4 0 i ⟨8 * c.val + h.val, by omega⟩ d) = k0_pay5 (k0_pay4 X wv) (ix2 i (col h d)) := by
    intro i; rw [rp_ap, pay5_ap]
    exact Finset.sum_congr rfl fun n _ => by rw [cl, ← ev]
  have hS : ∀ j, rs (rp X Wq) (rp X Wk) (ix4 0 ⟨8 * c.val + h.val, by omega⟩ i j)
      = ((rsc (x i) (x j) (fun n d => q n (col h d)) (fun n d => k n (col h d)) (11863283 / 134217728) : ℝ) : EReal) := by
    intro j; rw [rs_ap, ofBits_scale]; simp only [pq, pk]; exact score_out _ _ _ _ _
  have hs : ∀ j, sc (k0_pay2 X wq) (k0_pay3 X wk) h i j
      = ((rsc (x i) (x j) (fun n d => q n (col h d)) (fun n d => k n (col h d)) (11863283 / 134217728) : ℝ) : EReal) := by
    intro j; unfold sc; simp only [pay2_ap, pay3_ap, hx, hq, hk]; exact score_in _ _ _ _ _
  obtain ⟨μ, hμ⟩ := fold_max_coe (n := 255)
    (fun j => rsc (x i) (x j) (fun n d => q n (col h d)) (fun n d => k n (col h d)) (11863283 / 134217728))
  have hM : rt (rs (rp X Wq) (rp X Wk)) (ix4 0 ⟨8 * c.val + h.val, by omega⟩ i 0) = (μ : EReal) := by
    rw [rt_ap, ofBits_bot]; simp only [hS]; rw [hμ]; exact max_bot_left _
  unfold headF rA
  rw [ra_ap, rw_ap]
  simp only [re_ap, hS, hM, hs, pv, zero_mul, zero_add]
  exact softmax_eq (n := 255) _ μ _
end

/-- What the claim's precondition says of each device's buffers, and what it says of how the arrays lie: every device's result is
    the reference's. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (X : FVec Ideal S1x256x1024 .bf16) (Wq Wk Wv : FVec Ideal Cert.ReferenceIdeal.S1024x8192 .bf16)
    (Wo : FVec Ideal Cert.ReferenceIdeal.S8192x1024 .bf16) (wq wk wv wo : Fin 8 → FVec Ideal S1024x1024 .bf16)
    (aX : ∀ c : Dev nD, m ((c : Thread nD τ).loc main_arg0) = X) (aq : ∀ c : Dev nD, m ((c : Thread nD τ).loc main_arg1) = wq c)
    (ak : ∀ c : Dev nD, m ((c : Thread nD τ).loc main_arg2) = wk c) (av : ∀ c : Dev nD, m ((c : Thread nD τ).loc main_arg3) = wv c)
    (ao : ∀ c : Dev nD, m ((c : Thread nD τ).loc main_arg4) = wo c)
    (hX : ∀ i k, ∃ r : ℝ, X (ix3 0 i k) = (r : EReal)) (hq : ∀ c k n, ∃ r : ℝ, wq c (ix2 k n) = (r : EReal))
    (hk : ∀ c k n, ∃ r : ℝ, wk c (ix2 k n) = (r : EReal))
    (eq : ∀ (c : Fin 8) (k n : Fin 1024), wq c (ix2 k n) = Wq (ix2 k ⟨1024 * c.val + n.val, by omega⟩))
    (ek : ∀ (c : Fin 8) (k n : Fin 1024), wk c (ix2 k n) = Wk (ix2 k ⟨1024 * c.val + n.val, by omega⟩))
    (ev : ∀ (c : Fin 8) (k n : Fin 1024), wv c (ix2 k n) = Wv (ix2 k ⟨1024 * c.val + n.val, by omega⟩))
    (eo : ∀ (c : Fin 8) (k n : Fin 1024), wo c (ix2 k n) = Wo (ix2 ⟨1024 * c.val + k.val, by omega⟩ n)) (c : Dev nD) :
    outv (F := Ideal) m c = ro (rA X Wq Wk Wv) Wo := by
  refine funext fun (j : S256x1024.Idx) => ?_
  obtain ⟨i, n, rfl⟩ : ∃ (i : Fin 256) (n : Fin 1024), j = ix2 i n := ⟨j 0, j 1, by idx_vars j⟩
  rw [outv_ap, ro_ap, split]
  refine Finset.sum_congr rfl fun b _ => ?_
  unfold part
  refine Finset.sum_congr rfl fun y _ => ?_
  have hy : y = col ⟨y.val / 128, by omega⟩ ⟨y.val % 128, by omega⟩ := Fin.ext (by simp only [col]; omega)
  have hb : b.val < 8 := b.isLt
  have e1 : att (F := Ideal) m b (ix2 i y) = rA X Wq Wk Wv (ix4 0 i ⟨(1024 * b.val + y.val) / 128, by omega⟩ ⟨(1024 * b.val + y.val) % 128, by omega⟩) := by
    rw [(congrArg (fun y => att (F := Ideal) m b (ix2 i y)) hy).trans (att_ap m b i _ _)]
    unfold qv kv vb vv
    rw [xs_eq, wqs_eq, wks_eq, wvs_eq, aX, aq, ak, av, head_eq X (wq b) (wk b) (wv b) Wq Wk Wv b hX (hq b) (hk b) (eq b) (ek b) (ev b)]
    exact congrArg₂ (fun H d => rA X Wq Wk Wv (ix4 0 i H d)) (Fin.ext (by simp only []; omega)) (Fin.ext (by simp only []; omega))
  rw [e1, wos_eq, ao]
  exact congrArg _ (eo b y n)

end Cert.Attn

end
-- ==== Proof.Algebraic.lean ====
/-
# 01_k — The claim that the kernel agrees with the reference: where blocks lie, what the precondition says, and the two runs.
-/
module

public import proofs.«01_k».proof.Proof.Value
public import proofs.«01_k».proof.Proof.Launch
public import Idealize.ShloMosaic.Lib.Layout
public import proofs.«01_k».proof.Defs

@[expose] public section

noncomputable section

namespace Cert.Attn

open Idealize.ShloMosaic Idealize.ShloMosaic.TcCoe Idealize.SL.Sem
/-- Where a column block's entry lies in the whole weight. -/
theorem cols (W : FVec Ideal ⟨2, ![1024, 8192]⟩ .bf16) (c : Fin 8) (h : Layout.Tiles ⟨2, ![1024, 1024]⟩ ⟨2, ![1024, 8192]⟩ 1 8)
    (k n : Fin 1024) : Layout.block ⟨2, ![1024, 1024]⟩ ⟨2, ![1024, 8192]⟩ 1 8 c W h (ix2 k n) = W (ix2 k ⟨1024 * c.val + n.val, by omega⟩) := by
  rw [Layout.block_apply]
  refine congrArg W (funext fun b => Fin.ext ?_)
  match b with
  | 0 => rfl
  | 1 => exact congrArg (· + n.val) (Nat.mul_comm c.val 1024)

/-- Where a row block's entry lies in the whole weight. -/
theorem rows (W : FVec Ideal ⟨2, ![8192, 1024]⟩ .bf16) (c : Fin 8) (h : Layout.Tiles ⟨2, ![1024, 1024]⟩ ⟨2, ![8192, 1024]⟩ 0 8)
    (k n : Fin 1024) : Layout.block ⟨2, ![1024, 1024]⟩ ⟨2, ![8192, 1024]⟩ 0 8 c W h (ix2 k n) = W (ix2 ⟨1024 * c.val + k.val, by omega⟩ n) := by
  rw [Layout.block_apply]
  refine congrArg W (funext fun b => Fin.ext ?_)
  match b with
  | 0 => exact congrArg (· + k.val) (Nat.mul_comm c.val 1024)
  | 1 => rfl

section
variable [Cert.Pre_finite_scores_KernelIdeal.Facts]
  (X : FVec Ideal ⟨3, ![1, 256, 1024]⟩ .bf16) (wq wk wv wo : FVec Ideal ⟨2, ![1024, 1024]⟩ .bf16)

/-- What the precondition says of the activations and the two weights the scores are made of. -/
theorem pre_x (h : (Cert.Pre_finite_scores_KernelIdeal.fn (F := Ideal) X wq wk wv wo).1 = fun _ => 1#1) (i : Fin 256) (k : Fin 1024) :
    ∃ r : ℝ, X (ix3 0 i k) = (r : EReal) := fin_of _ (congrFun h (ix3 0 i k))
theorem pre_q (h : (Cert.Pre_finite_scores_KernelIdeal.fn (F := Ideal) X wq wk wv wo).2.1 = fun _ => 1#1) (k n : Fin 1024) :
    ∃ r : ℝ, wq (ix2 k n) = (r : EReal) := fin_of _ (congrFun h (ix2 k n))
theorem pre_k (h : (Cert.Pre_finite_scores_KernelIdeal.fn (F := Ideal) X wq wk wv wo).2.2 = fun _ => 1#1) (k n : Fin 1024) :
    ∃ r : ℝ, wk (ix2 k n) = (r : EReal) := fin_of _ (congrFun h (ix2 k n))
end

/-- Over the extended reals, from finite activations and score weights, the kernel ends with the reference's result on every device. -/
theorem algebraic [hp : Cert.Pre_finite_scores_KernelIdeal.Facts] :
    Cert.algebraic_KernelIdeal_ReferenceIdeal_pre_finite_scores_KernelIdeal (hKernelIdeal := Cert.KernelIdeal.Gen.facts)
      (hReferenceIdeal := Cert.ReferenceIdeal.Gen.facts) := by
  intro m g m' g' hpre hb
  have e := result_eq m m'
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
    (fun c : Dev Cert.KernelIdeal.nD => m ((c.tc : Thread Cert.KernelIdeal.nD Cert.KernelIdeal.τ).loc Cert.KernelIdeal.main_arg1))
    (fun c : Dev Cert.KernelIdeal.nD => m ((c.tc : Thread Cert.KernelIdeal.nD Cert.KernelIdeal.τ).loc Cert.KernelIdeal.main_arg2))
    (fun c : Dev Cert.KernelIdeal.nD => m ((c.tc : Thread Cert.KernelIdeal.nD Cert.KernelIdeal.τ).loc Cert.KernelIdeal.main_arg3))
    (fun c : Dev Cert.KernelIdeal.nD => m ((c.tc : Thread Cert.KernelIdeal.nD Cert.KernelIdeal.τ).loc Cert.KernelIdeal.main_arg4))
    (fun c => (hb c).1) (fun _ => rfl) (fun _ => rfl) (fun _ => rfl) (fun _ => rfl)
    (by rw [← (hb 0).1]; exact pre_x _ _ _ _ _ (hpre 0).1)
    (fun c => pre_q _ _ _ _ _ (hpre c).2.1) (fun c => pre_k _ _ _ _ _ (hpre c).2.2)
    (fun c k n => (congrFun (hb c).2.1 (ix2 k n)).trans (cols _ c _ k n))
    (fun c k n => (congrFun (hb c).2.2.1 (ix2 k n)).trans (cols _ c _ k n))
    (fun c k n => (congrFun (hb c).2.2.2.1 (ix2 k n)).trans (cols _ c _ k n))
    (fun c k n => (congrFun (hb c).2.2.2.2 (ix2 k n)).trans (rows _ c _ k n))
  refine ⟨Cert.ReferenceIdeal.Value.res_main_v42 (F := Ideal) m' 0, ?_, ?_⟩
  · refine (θ_run _ _ _).mono (fun r h c => ?_) (Cert.Exchange.run_main (F := Ideal) m g)
    exact ⟨(h.1 c).1.trans ((e c).trans (res_eq m').symm), (h.1 c).2⟩
  · exact (θ_run _ _ _).mono (fun r h => h 0) (Cert.ReferenceIdeal.Value.run (F := Ideal) m' g')

end Cert.Attn

end
-- ==== Proof.lean ====
/-
# 01_k — every claim: the three frames, that naming the scale is all that sets the idealized kernel apart, and that the
idealized kernel ends on every device with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim :=
  ⟨Cert.Kernel.Gen.facts, Cert.KernelIdeal.Gen.facts, Cert.ReferenceIdeal.Gen.facts, ⟨by decide, by decide, by decide⟩,
    ⟨by decide, by decide, by decide⟩, Cert.Runs.frame_p, Cert.Runs.frame_pi, fun m g _ => Cert.Runs.frame_pi m g trivial,
    Cert.Runs.frame_ri, fun m g _ => Cert.Runs.frame_ri m g trivial, Cert.Runs.preserves, Cert.Attn.algebraic (hp := _)⟩

end Cert.Proof

end
